-- ==== Defs.lean ====
def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_down_finite [hPre_down_finite : Cert.Pre_down_finite.Facts] (m : (ℓ : Loc Cert.DownIdeal.nD Cert.DownIdeal.τ Cert.DownIdeal.sig) → Buf (Elt Ideal) ℓ) : Prop :=
  ∀ c : Dev Cert.DownIdeal.nD,
    (Cert.Pre_down_finite.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6)) (m ((c.tc : Thread Cert.DownIdeal.nD Cert.DownIdeal.τ).loc Cert.DownIdeal.main_arg7)) (m ((c.tc : Thread Cert.DownIdeal.nD Cert.DownIdeal.τ).loc Cert.DownIdeal.main_arg8)) (m ((c.tc : Thread Cert.DownIdeal.nD Cert.DownIdeal.τ).loc Cert.DownIdeal.main_arg9))).1 = (fun _ => 1#1)
    ∧ (Cert.Pre_down_finite.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6)) (m ((c.tc : Thread Cert.DownIdeal.nD Cert.DownIdeal.τ).loc Cert.DownIdeal.main_arg7)) (m ((c.tc : Thread Cert.DownIdeal.nD Cert.DownIdeal.τ).loc Cert.DownIdeal.main_arg8)) (m ((c.tc : Thread Cert.DownIdeal.nD Cert.DownIdeal.τ).loc Cert.DownIdeal.main_arg9))).2.1 = (fun _ => 1#1)
    ∧ (Cert.Pre_down_finite.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6)) (m ((c.tc : Thread Cert.DownIdeal.nD Cert.DownIdeal.τ).loc Cert.DownIdeal.main_arg7)) (m ((c.tc : Thread Cert.DownIdeal.nD Cert.DownIdeal.τ).loc Cert.DownIdeal.main_arg8)) (m ((c.tc : Thread Cert.DownIdeal.nD Cert.DownIdeal.τ).loc Cert.DownIdeal.main_arg9))).2.2.1 = (fun _ => 1#1)
    ∧ (Cert.Pre_down_finite.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6)) (m ((c.tc : Thread Cert.DownIdeal.nD Cert.DownIdeal.τ).loc Cert.DownIdeal.main_arg7)) (m ((c.tc : Thread Cert.DownIdeal.nD Cert.DownIdeal.τ).loc Cert.DownIdeal.main_arg8)) (m ((c.tc : Thread Cert.DownIdeal.nD Cert.DownIdeal.τ).loc Cert.DownIdeal.main_arg9))).2.2.2.1 = (fun _ => 1#1)
    ∧ (Cert.Pre_down_finite.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6)) (m ((c.tc : Thread Cert.DownIdeal.nD Cert.DownIdeal.τ).loc Cert.DownIdeal.main_arg7)) (m ((c.tc : Thread Cert.DownIdeal.nD Cert.DownIdeal.τ).loc Cert.DownIdeal.main_arg8)) (m ((c.tc : Thread Cert.DownIdeal.nD Cert.DownIdeal.τ).loc Cert.DownIdeal.main_arg9))).2.2.2.2.1 = (fun _ => 1#1)
    ∧ (Cert.Pre_down_finite.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6)) (m ((c.tc : Thread Cert.DownIdeal.nD Cert.DownIdeal.τ).loc Cert.DownIdeal.main_arg7)) (m ((c.tc : Thread Cert.DownIdeal.nD Cert.DownIdeal.τ).loc Cert.DownIdeal.main_arg8)) (m ((c.tc : Thread Cert.DownIdeal.nD Cert.DownIdeal.τ).loc Cert.DownIdeal.main_arg9))).2.2.2.2.2.1 = (fun _ => 1#1)
    ∧ (Cert.Pre_down_finite.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6)) (m ((c.tc : Thread Cert.DownIdeal.nD Cert.DownIdeal.τ).loc Cert.DownIdeal.main_arg7)) (m ((c.tc : Thread Cert.DownIdeal.nD Cert.DownIdeal.τ).loc Cert.DownIdeal.main_arg8)) (m ((c.tc : Thread Cert.DownIdeal.nD Cert.DownIdeal.τ).loc Cert.DownIdeal.main_arg9))).2.2.2.2.2.2 = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_down_finite [hPre_down_finite : Cert.Pre_down_finite.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_down_finite.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4)) (m ((c.tc : Thread Cert.DownRefIdeal.nD Cert.DownRefIdeal.τ).loc Cert.DownRefIdeal.main_arg5)) (m ((c.tc : Thread Cert.DownRefIdeal.nD Cert.DownRefIdeal.τ).loc Cert.DownRefIdeal.main_arg6)) (m ((c.tc : Thread Cert.DownRefIdeal.nD Cert.DownRefIdeal.τ).loc Cert.DownRefIdeal.main_arg7)) (m ((c.tc : Thread Cert.DownRefIdeal.nD Cert.DownRefIdeal.τ).loc Cert.DownRefIdeal.main_arg8)) (m ((c.tc : Thread Cert.DownRefIdeal.nD Cert.DownRefIdeal.τ).loc Cert.DownRefIdeal.main_arg9))).1 = (fun _ => 1#1)
    ∧ (Cert.Pre_down_finite.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4)) (m ((c.tc : Thread Cert.DownRefIdeal.nD Cert.DownRefIdeal.τ).loc Cert.DownRefIdeal.main_arg5)) (m ((c.tc : Thread Cert.DownRefIdeal.nD Cert.DownRefIdeal.τ).loc Cert.DownRefIdeal.main_arg6)) (m ((c.tc : Thread Cert.DownRefIdeal.nD Cert.DownRefIdeal.τ).loc Cert.DownRefIdeal.main_arg7)) (m ((c.tc : Thread Cert.DownRefIdeal.nD Cert.DownRefIdeal.τ).loc Cert.DownRefIdeal.main_arg8)) (m ((c.tc : Thread Cert.DownRefIdeal.nD Cert.DownRefIdeal.τ).loc Cert.DownRefIdeal.main_arg9))).2.1 = (fun _ => 1#1)
    ∧ (Cert.Pre_down_finite.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4)) (m ((c.tc : Thread Cert.DownRefIdeal.nD Cert.DownRefIdeal.τ).loc Cert.DownRefIdeal.main_arg5)) (m ((c.tc : Thread Cert.DownRefIdeal.nD Cert.DownRefIdeal.τ).loc Cert.DownRefIdeal.main_arg6)) (m ((c.tc : Thread Cert.DownRefIdeal.nD Cert.DownRefIdeal.τ).loc Cert.DownRefIdeal.main_arg7)) (m ((c.tc : Thread Cert.DownRefIdeal.nD Cert.DownRefIdeal.τ).loc Cert.DownRefIdeal.main_arg8)) (m ((c.tc : Thread Cert.DownRefIdeal.nD Cert.DownRefIdeal.τ).loc Cert.DownRefIdeal.main_arg9))).2.2.1 = (fun _ => 1#1)
    ∧ (Cert.Pre_down_finite.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4)) (m ((c.tc : Thread Cert.DownRefIdeal.nD Cert.DownRefIdeal.τ).loc Cert.DownRefIdeal.main_arg5)) (m ((c.tc : Thread Cert.DownRefIdeal.nD Cert.DownRefIdeal.τ).loc Cert.DownRefIdeal.main_arg6)) (m ((c.tc : Thread Cert.DownRefIdeal.nD Cert.DownRefIdeal.τ).loc Cert.DownRefIdeal.main_arg7)) (m ((c.tc : Thread Cert.DownRefIdeal.nD Cert.DownRefIdeal.τ).loc Cert.DownRefIdeal.main_arg8)) (m ((c.tc : Thread Cert.DownRefIdeal.nD Cert.DownRefIdeal.τ).loc Cert.DownRefIdeal.main_arg9))).2.2.2.1 = (fun _ => 1#1)
    ∧ (Cert.Pre_down_finite.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4)) (m ((c.tc : Thread Cert.DownRefIdeal.nD Cert.DownRefIdeal.τ).loc Cert.DownRefIdeal.main_arg5)) (m ((c.tc : Thread Cert.DownRefIdeal.nD Cert.DownRefIdeal.τ).loc Cert.DownRefIdeal.main_arg6)) (m ((c.tc : Thread Cert.DownRefIdeal.nD Cert.DownRefIdeal.τ).loc Cert.DownRefIdeal.main_arg7)) (m ((c.tc : Thread Cert.DownRefIdeal.nD Cert.DownRefIdeal.τ).loc Cert.DownRefIdeal.main_arg8)) (m ((c.tc : Thread Cert.DownRefIdeal.nD Cert.DownRefIdeal.τ).loc Cert.DownRefIdeal.main_arg9))).2.2.2.2.1 = (fun _ => 1#1)
    ∧ (Cert.Pre_down_finite.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4)) (m ((c.tc : Thread Cert.DownRefIdeal.nD Cert.DownRefIdeal.τ).loc Cert.DownRefIdeal.main_arg5)) (m ((c.tc : Thread Cert.DownRefIdeal.nD Cert.DownRefIdeal.τ).loc Cert.DownRefIdeal.main_arg6)) (m ((c.tc : Thread Cert.DownRefIdeal.nD Cert.DownRefIdeal.τ).loc Cert.DownRefIdeal.main_arg7)) (m ((c.tc : Thread Cert.DownRefIdeal.nD Cert.DownRefIdeal.τ).loc Cert.DownRefIdeal.main_arg8)) (m ((c.tc : Thread Cert.DownRefIdeal.nD Cert.DownRefIdeal.τ).loc Cert.DownRefIdeal.main_arg9))).2.2.2.2.2.1 = (fun _ => 1#1)
    ∧ (Cert.Pre_down_finite.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4)) (m ((c.tc : Thread Cert.DownRefIdeal.nD Cert.DownRefIdeal.τ).loc Cert.DownRefIdeal.main_arg5)) (m ((c.tc : Thread Cert.DownRefIdeal.nD Cert.DownRefIdeal.τ).loc Cert.DownRefIdeal.main_arg6)) (m ((c.tc : Thread Cert.DownRefIdeal.nD Cert.DownRefIdeal.τ).loc Cert.DownRefIdeal.main_arg7)) (m ((c.tc : Thread Cert.DownRefIdeal.nD Cert.DownRefIdeal.τ).loc Cert.DownRefIdeal.main_arg8)) (m ((c.tc : Thread Cert.DownRefIdeal.nD Cert.DownRefIdeal.τ).loc Cert.DownRefIdeal.main_arg9))).2.2.2.2.2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_qkv_attn_finite [hPre_qkv_attn_finite : Cert.Pre_qkv_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_qkv_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_qkv_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_qkv_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.1 = (fun _ => 1#1)
    ∧ (Cert.Pre_qkv_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_qkv_attn_finite [hPre_qkv_attn_finite : Cert.Pre_qkv_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_qkv_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_qkv_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_qkv_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_qkv_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def Pre_HcIn (m : (ℓ : Loc Cert.HcIn.nD Cert.HcIn.τ Cert.HcIn.sig) → Buf (Elt Bits) ℓ) : Prop :=
  True

def Pre_HcInIdeal (m : (ℓ : Loc Cert.HcInIdeal.nD Cert.HcInIdeal.τ Cert.HcInIdeal.sig) → Buf (Elt Ideal) ℓ) : Prop :=
  True

def Pre_HcInRefIdeal (m : (ℓ : Loc Cert.HcInRefIdeal.nD Cert.HcInRefIdeal.τ Cert.HcInRefIdeal.sig) → Buf (Elt Ideal) ℓ) : Prop :=
  True

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4)
      ∧ r.2.mem ((c.tc : Thread Cert.GateUpRefIdeal.nD Cert.GateUpRefIdeal.τ).loc Cert.GateUpRefIdeal.main_arg5) = m ((c.tc : Thread Cert.GateUpRefIdeal.nD Cert.GateUpRefIdeal.τ).loc Cert.GateUpRefIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6)
      ∧ r.2.mem ((c.tc : Thread Cert.Down.nD Cert.Down.τ).loc Cert.Down.main_arg7) = m ((c.tc : Thread Cert.Down.nD Cert.Down.τ).loc Cert.Down.main_arg7)
      ∧ r.2.mem ((c.tc : Thread Cert.Down.nD Cert.Down.τ).loc Cert.Down.main_arg8) = m ((c.tc : Thread Cert.Down.nD Cert.Down.τ).loc Cert.Down.main_arg8)
      ∧ r.2.mem ((c.tc : Thread Cert.Down.nD Cert.Down.τ).loc Cert.Down.main_arg9) = m ((c.tc : Thread Cert.Down.nD Cert.Down.τ).loc Cert.Down.main_arg9))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6)
      ∧ r.2.mem ((c.tc : Thread Cert.DownIdeal.nD Cert.DownIdeal.τ).loc Cert.DownIdeal.main_arg7) = m ((c.tc : Thread Cert.DownIdeal.nD Cert.DownIdeal.τ).loc Cert.DownIdeal.main_arg7)
      ∧ r.2.mem ((c.tc : Thread Cert.DownIdeal.nD Cert.DownIdeal.τ).loc Cert.DownIdeal.main_arg8) = m ((c.tc : Thread Cert.DownIdeal.nD Cert.DownIdeal.τ).loc Cert.DownIdeal.main_arg8)
      ∧ r.2.mem ((c.tc : Thread Cert.DownIdeal.nD Cert.DownIdeal.τ).loc Cert.DownIdeal.main_arg9) = m ((c.tc : Thread Cert.DownIdeal.nD Cert.DownIdeal.τ).loc Cert.DownIdeal.main_arg9))
      ∧ r.2.sem = fun _ => 0)

def quiescent_DownIdeal_pre_down_finite [hDownIdeal : Cert.DownIdeal.Facts] [hPre_down_finite : Cert.Pre_down_finite.Facts] : Prop :=
  ∀ (m : (ℓ : Loc Cert.DownIdeal.nD Cert.DownIdeal.τ Cert.DownIdeal.sig) → Buf (Elt Ideal) ℓ) (g : Dev Cert.DownIdeal.nD → PrngReg), Pre_DownIdeal_down_finite m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6)
      ∧ r.2.mem ((c.tc : Thread Cert.DownIdeal.nD Cert.DownIdeal.τ).loc Cert.DownIdeal.main_arg7) = m ((c.tc : Thread Cert.DownIdeal.nD Cert.DownIdeal.τ).loc Cert.DownIdeal.main_arg7)
      ∧ r.2.mem ((c.tc : Thread Cert.DownIdeal.nD Cert.DownIdeal.τ).loc Cert.DownIdeal.main_arg8) = m ((c.tc : Thread Cert.DownIdeal.nD Cert.DownIdeal.τ).loc Cert.DownIdeal.main_arg8)
      ∧ r.2.mem ((c.tc : Thread Cert.DownIdeal.nD Cert.DownIdeal.τ).loc Cert.DownIdeal.main_arg9) = m ((c.tc : Thread Cert.DownIdeal.nD Cert.DownIdeal.τ).loc Cert.DownIdeal.main_arg9))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5)
      ∧ r.2.mem ((c.tc : Thread Cert.DownRefIdeal.nD Cert.DownRefIdeal.τ).loc Cert.DownRefIdeal.main_arg6) = m ((c.tc : Thread Cert.DownRefIdeal.nD Cert.DownRefIdeal.τ).loc Cert.DownRefIdeal.main_arg6)
      ∧ r.2.mem ((c.tc : Thread Cert.DownRefIdeal.nD Cert.DownRefIdeal.τ).loc Cert.DownRefIdeal.main_arg7) = m ((c.tc : Thread Cert.DownRefIdeal.nD Cert.DownRefIdeal.τ).loc Cert.DownRefIdeal.main_arg7)
      ∧ r.2.mem ((c.tc : Thread Cert.DownRefIdeal.nD Cert.DownRefIdeal.τ).loc Cert.DownRefIdeal.main_arg8) = m ((c.tc : Thread Cert.DownRefIdeal.nD Cert.DownRefIdeal.τ).loc Cert.DownRefIdeal.main_arg8)
      ∧ r.2.mem ((c.tc : Thread Cert.DownRefIdeal.nD Cert.DownRefIdeal.τ).loc Cert.DownRefIdeal.main_arg9) = m ((c.tc : Thread Cert.DownRefIdeal.nD Cert.DownRefIdeal.τ).loc Cert.DownRefIdeal.main_arg9))
      ∧ r.2.sem = fun _ => 0)

def quiescent_DownRefIdeal_pre_down_finite [hDownRefIdeal : Cert.DownRefIdeal.Facts] [hPre_down_finite : Cert.Pre_down_finite.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_down_finite m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5)
      ∧ r.2.mem ((c.tc : Thread Cert.DownRefIdeal.nD Cert.DownRefIdeal.τ).loc Cert.DownRefIdeal.main_arg6) = m ((c.tc : Thread Cert.DownRefIdeal.nD Cert.DownRefIdeal.τ).loc Cert.DownRefIdeal.main_arg6)
      ∧ r.2.mem ((c.tc : Thread Cert.DownRefIdeal.nD Cert.DownRefIdeal.τ).loc Cert.DownRefIdeal.main_arg7) = m ((c.tc : Thread Cert.DownRefIdeal.nD Cert.DownRefIdeal.τ).loc Cert.DownRefIdeal.main_arg7)
      ∧ r.2.mem ((c.tc : Thread Cert.DownRefIdeal.nD Cert.DownRefIdeal.τ).loc Cert.DownRefIdeal.main_arg8) = m ((c.tc : Thread Cert.DownRefIdeal.nD Cert.DownRefIdeal.τ).loc Cert.DownRefIdeal.main_arg8)
      ∧ r.2.mem ((c.tc : Thread Cert.DownRefIdeal.nD Cert.DownRefIdeal.τ).loc Cert.DownRefIdeal.main_arg9) = m ((c.tc : Thread Cert.DownRefIdeal.nD Cert.DownRefIdeal.τ).loc Cert.DownRefIdeal.main_arg9))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_qkv_attn_finite [hAttnIdeal : Cert.AttnIdeal.Facts] [hPre_qkv_attn_finite : Cert.Pre_qkv_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_qkv_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_qkv_attn_finite [hAttnRefIdeal : Cert.AttnRefIdeal.Facts] [hPre_qkv_attn_finite : Cert.Pre_qkv_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_qkv_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3)
      ∧ r.2.mem ((c.tc : Thread Cert.AttnOut.nD Cert.AttnOut.τ).loc Cert.AttnOut.main_arg4) = m ((c.tc : Thread Cert.AttnOut.nD Cert.AttnOut.τ).loc Cert.AttnOut.main_arg4)
      ∧ r.2.mem ((c.tc : Thread Cert.AttnOut.nD Cert.AttnOut.τ).loc Cert.AttnOut.main_arg5) = m ((c.tc : Thread Cert.AttnOut.nD Cert.AttnOut.τ).loc Cert.AttnOut.main_arg5)
      ∧ r.2.mem ((c.tc : Thread Cert.AttnOut.nD Cert.AttnOut.τ).loc Cert.AttnOut.main_arg6) = m ((c.tc : Thread Cert.AttnOut.nD Cert.AttnOut.τ).loc Cert.AttnOut.main_arg6)
      ∧ r.2.mem ((c.tc : Thread Cert.AttnOut.nD Cert.AttnOut.τ).loc Cert.AttnOut.main_arg7) = m ((c.tc : Thread Cert.AttnOut.nD Cert.AttnOut.τ).loc Cert.AttnOut.main_arg7))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
      ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4)
      ∧ r.2.mem ((c.tc : Thread Cert.AttnOutIdeal.nD Cert.AttnOutIdeal.τ).loc Cert.AttnOutIdeal.main_arg5) = m ((c.tc : Thread Cert.AttnOutIdeal.nD Cert.AttnOutIdeal.τ).loc Cert.AttnOutIdeal.main_arg5)
      ∧ r.2.mem ((c.tc : Thread Cert.AttnOutIdeal.nD Cert.AttnOutIdeal.τ).loc Cert.AttnOutIdeal.main_arg6) = m ((c.tc : Thread Cert.AttnOutIdeal.nD Cert.AttnOutIdeal.τ).loc Cert.AttnOutIdeal.main_arg6)
      ∧ r.2.mem ((c.tc : Thread Cert.AttnOutIdeal.nD Cert.AttnOutIdeal.τ).loc Cert.AttnOutIdeal.main_arg7) = m ((c.tc : Thread Cert.AttnOutIdeal.nD Cert.AttnOutIdeal.τ).loc Cert.AttnOutIdeal.main_arg7))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2)
      ∧ r.2.mem ((c.tc : Thread Cert.AttnOutRefIdeal.nD Cert.AttnOutRefIdeal.τ).loc Cert.AttnOutRefIdeal.main_arg3) = m ((c.tc : Thread Cert.AttnOutRefIdeal.nD Cert.AttnOutRefIdeal.τ).loc Cert.AttnOutRefIdeal.main_arg3)
      ∧ r.2.mem ((c.tc : Thread Cert.AttnOutRefIdeal.nD Cert.AttnOutRefIdeal.τ).loc Cert.AttnOutRefIdeal.main_arg4) = m ((c.tc : Thread Cert.AttnOutRefIdeal.nD Cert.AttnOutRefIdeal.τ).loc Cert.AttnOutRefIdeal.main_arg4)
      ∧ r.2.mem ((c.tc : Thread Cert.AttnOutRefIdeal.nD Cert.AttnOutRefIdeal.τ).loc Cert.AttnOutRefIdeal.main_arg5) = m ((c.tc : Thread Cert.AttnOutRefIdeal.nD Cert.AttnOutRefIdeal.τ).loc Cert.AttnOutRefIdeal.main_arg5)
      ∧ r.2.mem ((c.tc : Thread Cert.AttnOutRefIdeal.nD Cert.AttnOutRefIdeal.τ).loc Cert.AttnOutRefIdeal.main_arg6) = m ((c.tc : Thread Cert.AttnOutRefIdeal.nD Cert.AttnOutRefIdeal.τ).loc Cert.AttnOutRefIdeal.main_arg6)
      ∧ r.2.mem ((c.tc : Thread Cert.AttnOutRefIdeal.nD Cert.AttnOutRefIdeal.τ).loc Cert.AttnOutRefIdeal.main_arg7) = m ((c.tc : Thread Cert.AttnOutRefIdeal.nD Cert.AttnOutRefIdeal.τ).loc Cert.AttnOutRefIdeal.main_arg7))
      ∧ r.2.sem = fun _ => 0)

def quiescent_HcIn [hHcIn : Cert.HcIn.Facts] : Prop :=
  ∀ (m : (ℓ : Loc Cert.HcIn.nD Cert.HcIn.τ Cert.HcIn.sig) → Buf (Elt Bits) ℓ) (g : Dev Cert.HcIn.nD → PrngReg), Pre_HcIn m →
    θ_run (Cert.HcIn.defs (F := Bits)) (onTc (τ := Cert.HcIn.τ) (Cert.HcIn.main (F := Bits))) ⟨m, fun _ => 0, g⟩ (fun r => (∀ c : Dev Cert.HcIn.nD,
      r.2.mem ((c.tc : Thread Cert.HcIn.nD Cert.HcIn.τ).loc Cert.HcIn.main_arg0) = m ((c.tc : Thread Cert.HcIn.nD Cert.HcIn.τ).loc Cert.HcIn.main_arg0)
      ∧ r.2.mem ((c.tc : Thread Cert.HcIn.nD Cert.HcIn.τ).loc Cert.HcIn.main_arg1) = m ((c.tc : Thread Cert.HcIn.nD Cert.HcIn.τ).loc Cert.HcIn.main_arg1)
      ∧ r.2.mem ((c.tc : Thread Cert.HcIn.nD Cert.HcIn.τ).loc Cert.HcIn.main_arg2) = m ((c.tc : Thread Cert.HcIn.nD Cert.HcIn.τ).loc Cert.HcIn.main_arg2))
      ∧ r.2.sem = fun _ => 0)

def quiescent_HcInIdeal [hHcInIdeal : Cert.HcInIdeal.Facts] : Prop :=
  ∀ (m : (ℓ : Loc Cert.HcInIdeal.nD Cert.HcInIdeal.τ Cert.HcInIdeal.sig) → Buf (Elt Ideal) ℓ) (g : Dev Cert.HcInIdeal.nD → PrngReg), Pre_HcInIdeal m →
    θ_run (Cert.HcInIdeal.defs (F := Ideal)) (onTc (τ := Cert.HcInIdeal.τ) (Cert.HcInIdeal.main (F := Ideal))) ⟨m, fun _ => 0, g⟩ (fun r => (∀ c : Dev Cert.HcInIdeal.nD,
      r.2.mem ((c.tc : Thread Cert.HcInIdeal.nD Cert.HcInIdeal.τ).loc Cert.HcInIdeal.main_arg0) = m ((c.tc : Thread Cert.HcInIdeal.nD Cert.HcInIdeal.τ).loc Cert.HcInIdeal.main_arg0)
      ∧ r.2.mem ((c.tc : Thread Cert.HcInIdeal.nD Cert.HcInIdeal.τ).loc Cert.HcInIdeal.main_arg1) = m ((c.tc : Thread Cert.HcInIdeal.nD Cert.HcInIdeal.τ).loc Cert.HcInIdeal.main_arg1)
      ∧ r.2.mem ((c.tc : Thread Cert.HcInIdeal.nD Cert.HcInIdeal.τ).loc Cert.HcInIdeal.main_arg2) = m ((c.tc : Thread Cert.HcInIdeal.nD Cert.HcInIdeal.τ).loc Cert.HcInIdeal.main_arg2))
      ∧ r.2.sem = fun _ => 0)

def quiescent_HcInRefIdeal [hHcInRefIdeal : Cert.HcInRefIdeal.Facts] : Prop :=
  ∀ (m : (ℓ : Loc Cert.HcInRefIdeal.nD Cert.HcInRefIdeal.τ Cert.HcInRefIdeal.sig) → Buf (Elt Ideal) ℓ) (g : Dev Cert.HcInRefIdeal.nD → PrngReg), Pre_HcInRefIdeal m →
    θ_run (Cert.HcInRefIdeal.defs (F := Ideal)) (onTc (τ := Cert.HcInRefIdeal.τ) (Cert.HcInRefIdeal.main (F := Ideal))) ⟨m, fun _ => 0, g⟩ (fun r => (∀ c : Dev Cert.HcInRefIdeal.nD,
      r.2.mem ((c.tc : Thread Cert.HcInRefIdeal.nD Cert.HcInRefIdeal.τ).loc Cert.HcInRefIdeal.main_arg0) = m ((c.tc : Thread Cert.HcInRefIdeal.nD Cert.HcInRefIdeal.τ).loc Cert.HcInRefIdeal.main_arg0)
      ∧ r.2.mem ((c.tc : Thread Cert.HcInRefIdeal.nD Cert.HcInRefIdeal.τ).loc Cert.HcInRefIdeal.main_arg1) = m ((c.tc : Thread Cert.HcInRefIdeal.nD Cert.HcInRefIdeal.τ).loc Cert.HcInRefIdeal.main_arg1)
      ∧ r.2.mem ((c.tc : Thread Cert.HcInRefIdeal.nD Cert.HcInRefIdeal.τ).loc Cert.HcInRefIdeal.main_arg2) = m ((c.tc : Thread Cert.HcInRefIdeal.nD Cert.HcInRefIdeal.τ).loc Cert.HcInRefIdeal.main_arg2))
      ∧ r.2.sem = fun _ => 0)

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)
      ∧ m' ((c.tc : Thread Cert.GateUpRefIdeal.nD Cert.GateUpRefIdeal.τ).loc Cert.GateUpRefIdeal.main_arg5) = m ((c.tc : Thread Cert.GateUpIdeal.nD Cert.GateUpIdeal.τ).loc Cert.GateUpIdeal.main_arg5)) →
    ∃ (v0 : (c : Dev Cert.GateUpIdeal.nD) → Buf (Elt Ideal) ((c.tc : Thread Cert.GateUpIdeal.nD Cert.GateUpIdeal.τ).loc Cert.GateUpIdeal.main_v2_0)) (v1 : (c : Dev Cert.GateUpIdeal.nD) → Buf (Elt Ideal) ((c.tc : Thread Cert.GateUpIdeal.nD Cert.GateUpIdeal.τ).loc Cert.GateUpIdeal.main_v2_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v2_0) = v0 c
          ∧ r.2.mem ((c.tc : Thread Cert.GateUpIdeal.nD Cert.GateUpIdeal.τ).loc Cert.GateUpIdeal.main_v2_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v2) = v0 c
          ∧ r.2.mem ((c.tc : Thread Cert.GateUpRefIdeal.nD Cert.GateUpRefIdeal.τ).loc Cert.GateUpRefIdeal.main_v5) = v1 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4)
          ∧ r.2.mem ((c.tc : Thread Cert.GateUpRefIdeal.nD Cert.GateUpRefIdeal.τ).loc Cert.GateUpRefIdeal.main_arg5) = m' ((c.tc : Thread Cert.GateUpRefIdeal.nD Cert.GateUpRefIdeal.τ).loc Cert.GateUpRefIdeal.main_arg5))

def preserves_Down_DownIdeal : Prop :=
  True

def algebraic_DownIdeal_DownRefIdeal_pre_down_finite [hDownIdeal : Cert.DownIdeal.Facts] [hDownRefIdeal : Cert.DownRefIdeal.Facts] [hPre_down_finite : Cert.Pre_down_finite.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal_down_finite m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)
      ∧ m' ((c.tc : Thread Cert.DownRefIdeal.nD Cert.DownRefIdeal.τ).loc Cert.DownRefIdeal.main_arg6) = m ((c.tc : Thread Cert.DownIdeal.nD Cert.DownIdeal.τ).loc Cert.DownIdeal.main_arg6)
      ∧ m' ((c.tc : Thread Cert.DownRefIdeal.nD Cert.DownRefIdeal.τ).loc Cert.DownRefIdeal.main_arg7) = m ((c.tc : Thread Cert.DownIdeal.nD Cert.DownIdeal.τ).loc Cert.DownIdeal.main_arg7)
      ∧ m' ((c.tc : Thread Cert.DownRefIdeal.nD Cert.DownRefIdeal.τ).loc Cert.DownRefIdeal.main_arg8) = m ((c.tc : Thread Cert.DownIdeal.nD Cert.DownIdeal.τ).loc Cert.DownIdeal.main_arg8)
      ∧ m' ((c.tc : Thread Cert.DownRefIdeal.nD Cert.DownRefIdeal.τ).loc Cert.DownRefIdeal.main_arg9) = m ((c.tc : Thread Cert.DownIdeal.nD Cert.DownIdeal.τ).loc Cert.DownIdeal.main_arg9)) →
    ∃ (v0 : (c : Dev Cert.DownIdeal.nD) → Buf (Elt Ideal) ((c.tc : Thread Cert.DownIdeal.nD Cert.DownIdeal.τ).loc Cert.DownIdeal.main_v7_0)) (v1 : (c : Dev Cert.DownIdeal.nD) → Buf (Elt Ideal) ((c.tc : Thread Cert.DownIdeal.nD Cert.DownIdeal.τ).loc Cert.DownIdeal.main_v7_1)) (v2 : (c : Dev Cert.DownIdeal.nD) → Buf (Elt Ideal) ((c.tc : Thread Cert.DownIdeal.nD Cert.DownIdeal.τ).loc Cert.DownIdeal.main_v7_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v7_0) = v0 c
          ∧ r.2.mem ((c.tc : Thread Cert.DownIdeal.nD Cert.DownIdeal.τ).loc Cert.DownIdeal.main_v7_1) = v1 c
          ∧ r.2.mem ((c.tc : Thread Cert.DownIdeal.nD Cert.DownIdeal.τ).loc Cert.DownIdeal.main_v7_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
          ∧ r.2.mem ((c.tc : Thread Cert.DownIdeal.nD Cert.DownIdeal.τ).loc Cert.DownIdeal.main_arg6) = m ((c.tc : Thread Cert.DownIdeal.nD Cert.DownIdeal.τ).loc Cert.DownIdeal.main_arg6)
          ∧ r.2.mem ((c.tc : Thread Cert.DownIdeal.nD Cert.DownIdeal.τ).loc Cert.DownIdeal.main_arg7) = m ((c.tc : Thread Cert.DownIdeal.nD Cert.DownIdeal.τ).loc Cert.DownIdeal.main_arg7)
          ∧ r.2.mem ((c.tc : Thread Cert.DownIdeal.nD Cert.DownIdeal.τ).loc Cert.DownIdeal.main_arg8) = m ((c.tc : Thread Cert.DownIdeal.nD Cert.DownIdeal.τ).loc Cert.DownIdeal.main_arg8)
          ∧ r.2.mem ((c.tc : Thread Cert.DownIdeal.nD Cert.DownIdeal.τ).loc Cert.DownIdeal.main_arg9) = m ((c.tc : Thread Cert.DownIdeal.nD Cert.DownIdeal.τ).loc Cert.DownIdeal.main_arg9))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v20_0) = v0 c
          ∧ r.2.mem ((c.tc : Thread Cert.DownRefIdeal.nD Cert.DownRefIdeal.τ).loc Cert.DownRefIdeal.main_v18) = v1 c
          ∧ r.2.mem ((c.tc : Thread Cert.DownRefIdeal.nD Cert.DownRefIdeal.τ).loc Cert.DownRefIdeal.main_v36) = v2 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5)
          ∧ r.2.mem ((c.tc : Thread Cert.DownRefIdeal.nD Cert.DownRefIdeal.τ).loc Cert.DownRefIdeal.main_arg6) = m' ((c.tc : Thread Cert.DownRefIdeal.nD Cert.DownRefIdeal.τ).loc Cert.DownRefIdeal.main_arg6)
          ∧ r.2.mem ((c.tc : Thread Cert.DownRefIdeal.nD Cert.DownRefIdeal.τ).loc Cert.DownRefIdeal.main_arg7) = m' ((c.tc : Thread Cert.DownRefIdeal.nD Cert.DownRefIdeal.τ).loc Cert.DownRefIdeal.main_arg7)
          ∧ r.2.mem ((c.tc : Thread Cert.DownRefIdeal.nD Cert.DownRefIdeal.τ).loc Cert.DownRefIdeal.main_arg8) = m' ((c.tc : Thread Cert.DownRefIdeal.nD Cert.DownRefIdeal.τ).loc Cert.DownRefIdeal.main_arg8)
          ∧ r.2.mem ((c.tc : Thread Cert.DownRefIdeal.nD Cert.DownRefIdeal.τ).loc Cert.DownRefIdeal.main_arg9) = m' ((c.tc : Thread Cert.DownRefIdeal.nD Cert.DownRefIdeal.τ).loc Cert.DownRefIdeal.main_arg9))

def preserves_Attn_AttnIdeal : Prop :=
  True

def algebraic_AttnIdeal_AttnRefIdeal_pre_qkv_attn_finite [hAttnIdeal : Cert.AttnIdeal.Facts] [hAttnRefIdeal : Cert.AttnRefIdeal.Facts] [hPre_qkv_attn_finite : Cert.Pre_qkv_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_qkv_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v3) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v39) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_AttnOut_AttnOutIdeal : Prop :=
  True

def preserves_HcIn_HcInIdeal : Prop :=
  True

def Claim : Prop :=
  ∃ (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hAttn : Cert.Attn.Facts) (hAttnIdeal : Cert.AttnIdeal.Facts) (hAttnRefIdeal : Cert.AttnRefIdeal.Facts) (hAttnOut : Cert.AttnOut.Facts) (hAttnOutIdeal : Cert.AttnOutIdeal.Facts) (hAttnOutRefIdeal : Cert.AttnOutRefIdeal.Facts) (hHcIn : Cert.HcIn.Facts) (hHcInIdeal : Cert.HcInIdeal.Facts) (hHcInRefIdeal : Cert.HcInRefIdeal.Facts) (hPre_down_finite : Cert.Pre_down_finite.Facts) (hPre_qkv_attn_finite : Cert.Pre_qkv_attn_finite.Facts),
    quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownIdeal_pre_down_finite (hDownIdeal := hDownIdeal) (hPre_down_finite := hPre_down_finite)
    ∧ quiescent_DownRefIdeal (hDownRefIdeal := hDownRefIdeal)
    ∧ quiescent_DownRefIdeal_pre_down_finite (hDownRefIdeal := hDownRefIdeal) (hPre_down_finite := hPre_down_finite)
    ∧ quiescent_Attn (hAttn := hAttn)
    ∧ quiescent_AttnIdeal (hAttnIdeal := hAttnIdeal)
    ∧ quiescent_AttnIdeal_pre_qkv_attn_finite (hAttnIdeal := hAttnIdeal) (hPre_qkv_attn_finite := hPre_qkv_attn_finite)
    ∧ quiescent_AttnRefIdeal (hAttnRefIdeal := hAttnRefIdeal)
    ∧ quiescent_AttnRefIdeal_pre_qkv_attn_finite (hAttnRefIdeal := hAttnRefIdeal) (hPre_qkv_attn_finite := hPre_qkv_attn_finite)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ quiescent_HcIn (hHcIn := hHcIn)
    ∧ quiescent_HcInIdeal (hHcInIdeal := hHcInIdeal)
    ∧ quiescent_HcInRefIdeal (hHcInRefIdeal := hHcInRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal_pre_down_finite (hDownIdeal := hDownIdeal) (hDownRefIdeal := hDownRefIdeal) (hPre_down_finite := hPre_down_finite)
    ∧ preserves_Attn_AttnIdeal
    ∧ algebraic_AttnIdeal_AttnRefIdeal_pre_qkv_attn_finite (hAttnIdeal := hAttnIdeal) (hAttnRefIdeal := hAttnRefIdeal) (hPre_qkv_attn_finite := hPre_qkv_attn_finite)
    ∧ preserves_AttnOut_AttnOutIdeal
    ∧ preserves_HcIn_HcInIdeal
-- ==== Pre_down_finite.lean ====
abbrev S4x4 : Shape := ⟨2, ![4, 4]⟩
abbrev S4 : Shape := ⟨1, ![4]⟩
abbrev S1152x9728 : Shape := ⟨2, ![1152, 9728]⟩
abbrev S1152x128 : Shape := ⟨2, ![1152, 128]⟩
abbrev S9728x2560 : Shape := ⟨2, ![9728, 2560]⟩
abbrev S2560 : Shape := ⟨1, ![2560]⟩
abbrev S4x1152x2560 : Shape := ⟨3, ![4, 1152, 2560]⟩
abbrev S1152x2560 : Shape := ⟨2, ![1152, 2560]⟩
abbrev S_ : Shape := ⟨0, ![]⟩

class Facts : Prop where
  bitsLt_bf16_f32 : FTy.bits .bf16 < FTy.bits .f32
  bcast_S_S4x4 : S_.BroadcastsInDim S4x4 (![] : Fin 0 → Fin S4x4.rank)
  bcast_S_S4 : S_.BroadcastsInDim S4 (![] : Fin 0 → Fin S4.rank)
  bcast_S_S1152x128 : S_.BroadcastsInDim S1152x128 (![] : Fin 0 → Fin S1152x128.rank)
  bcast_S_S4x1152x2560 : S_.BroadcastsInDim S4x1152x2560 (![] : Fin 0 → Fin S4x1152x2560.rank)
  bcast_S_S1152x2560 : S_.BroadcastsInDim S1152x2560 (![] : Fin 0 → Fin S1152x2560.rank)

variable [Facts]

def fn_part1 {F : FTy → Type} [FloatOps F] (main_arg9 : FVec F S1152x2560 .f32) (main_v3 : IVec S4x4 1) (main_v6 : IVec S4 1) (main_v9 : IVec S4x4 1) (main_v12 : IVec S4 1) (main_v15 : IVec S1152x128 1) (main_v16 : FVec F S4x1152x2560 .f32) (main_v17 : FVec F S4x1152x2560 .f32) : IVec S4x4 1 × IVec S4 1 × IVec S4x4 1 × IVec S4 1 × IVec S1152x128 1 × IVec S4x1152x2560 1 × IVec S1152x2560 1 :=
  let main_v18 : IVec S4x1152x2560 1 := cmpf .ole main_v16 main_v17
  let main_v19 : FVec F S1152x2560 .f32 := Host.absf main_arg9
  let main_cst_5 : FVec F S_ .f32 := constant S_ .f32 0x7F7FFFFF#32
  let main_v20 : FVec F S1152x2560 .f32 := broadcastInDim S1152x2560 ![] bcast_S_S1152x2560 main_cst_5
  let main_v21 : IVec S1152x2560 1 := cmpf .ole main_v19 main_v20
  (main_v3, main_v6, main_v9, main_v12, main_v15, main_v18, main_v21)

def fn {F : FTy → Type} [FloatOps F] (main_arg0 : FVec F S4x4 .f32) (main_arg1 : FVec F S4 .f32) (main_arg2 : FVec F S4x4 .f32) (main_arg3 : FVec F S4 .f32) (main_arg4 : FVec F S1152x9728 .f32) (main_arg5 : FVec F S1152x128 .f32) (main_arg6 : FVec F S9728x2560 .fp8e4m3) (main_arg7 : FVec F S2560 .f32) (main_arg8 : FVec F S4x1152x2560 .bf16) (main_arg9 : FVec F S1152x2560 .f32) : IVec S4x4 1 × IVec S4 1 × IVec S4x4 1 × IVec S4 1 × IVec S1152x128 1 × IVec S4x1152x2560 1 × IVec S1152x2560 1 :=
  let main_v0 : FVec F S4x1152x2560 .f32 := (extf .f32 · bitsLt_bf16_f32) main_arg8
  let main_v1 : FVec F S4x4 .f32 := Host.absf main_arg0
  let main_cst : FVec F S_ .f32 := constant S_ .f32 0x7F7FFFFF#32
  let main_v2 : FVec F S4x4 .f32 := broadcastInDim S4x4 ![] bcast_S_S4x4 main_cst
  let main_v3 : IVec S4x4 1 := cmpf .ole main_v1 main_v2
  let main_v4 : FVec F S4 .f32 := Host.absf main_arg1
  let main_cst_0 : FVec F S_ .f32 := constant S_ .f32 0x7F7FFFFF#32
  let main_v5 : FVec F S4 .f32 := broadcastInDim S4 ![] bcast_S_S4 main_cst_0
  let main_v6 : IVec S4 1 := cmpf .ole main_v4 main_v5
  let main_v7 : FVec F S4x4 .f32 := Host.absf main_arg2
  let main_cst_1 : FVec F S_ .f32 := constant S_ .f32 0x7F7FFFFF#32
  let main_v8 : FVec F S4x4 .f32 := broadcastInDim S4x4 ![] bcast_S_S4x4 main_cst_1
  let main_v9 : IVec S4x4 1 := cmpf .ole main_v7 main_v8
  let main_v10 : FVec F S4 .f32 := Host.absf main_arg3
  let main_cst_2 : FVec F S_ .f32 := constant S_ .f32 0x7F7FFFFF#32
  let main_v11 : FVec F S4 .f32 := broadcastInDim S4 ![] bcast_S_S4 main_cst_2
  let main_v12 : IVec S4 1 := cmpf .ole main_v10 main_v11
  let main_v13 : FVec F S1152x128 .f32 := Host.absf main_arg5
  let main_cst_3 : FVec F S_ .f32 := constant S_ .f32 0x7F7FFFFF#32
  let main_v14 : FVec F S1152x128 .f32 := broadcastInDim S1152x128 ![] bcast_S_S1152x128 main_cst_3
  let main_v15 : IVec S1152x128 1 := cmpf .ole main_v13 main_v14
  let main_v16 : FVec F S4x1152x2560 .f32 := Host.absf main_v0
  let main_cst_4 : FVec F S_ .f32 := constant S_ .f32 0x7F7FFFFF#32
  let main_v17 : FVec F S4x1152x2560 .f32 := broadcastInDim S4x1152x2560 ![] bcast_S_S4x1152x2560 main_cst_4
  fn_part1 (F := F) main_arg9 main_v3 main_v6 main_v9 main_v12 main_v15 main_v16 main_v17
-- ==== Pre_qkv_attn_finite.lean ====
abbrev S1152x2560 : Shape := ⟨2, ![1152, 2560]⟩
abbrev S1152x1 : Shape := ⟨2, ![1152, 1]⟩
abbrev S2560x6144 : Shape := ⟨2, ![2560, 6144]⟩
abbrev S6144 : Shape := ⟨1, ![6144]⟩
abbrev S2560x5120 : Shape := ⟨2, ![2560, 5120]⟩
abbrev S5120 : Shape := ⟨1, ![5120]⟩
abbrev S_ : Shape := ⟨0, ![]⟩

class Facts : Prop where
  slices_S2560x6144_S2560x5120_0_0 : S2560x6144.Slices ![0, 0] S2560x5120
  slices_S6144_S5120_0 : S6144.Slices ![0] S5120
  bcast_S_S1152x2560 : S_.BroadcastsInDim S1152x2560 (![] : Fin 0 → Fin S1152x2560.rank)
  bcast_S_S1152x1 : S_.BroadcastsInDim S1152x1 (![] : Fin 0 → Fin S1152x1.rank)
  bcast_S_S2560x5120 : S_.BroadcastsInDim S2560x5120 (![] : Fin 0 → Fin S2560x5120.rank)
  bcast_S_S5120 : S_.BroadcastsInDim S5120 (![] : Fin 0 → Fin S5120.rank)

variable [Facts]

def fn {F : FTy → Type} [FloatOps F] (main_arg0 : FVec F S1152x2560 .f32) (main_arg1 : FVec F S1152x1 .f32) (main_arg2 : FVec F S2560x6144 .f32) (main_arg3 : FVec F S6144 .f32) : IVec S1152x2560 1 × IVec S1152x1 1 × IVec S2560x5120 1 × IVec S5120 1 :=
  let main_v0 : FVec F S2560x5120 .f32 := (extractStridedSlice S2560x5120 ![0, 0] · slices_S2560x6144_S2560x5120_0_0) main_arg2
  let main_v1 : FVec F S5120 .f32 := (extractStridedSlice S5120 ![0] · slices_S6144_S5120_0) main_arg3
  let main_v2 : FVec F S1152x2560 .f32 := Host.absf main_arg0
  let main_cst : FVec F S_ .f32 := constant S_ .f32 0x7F7FFFFF#32
  let main_v3 : FVec F S1152x2560 .f32 := broadcastInDim S1152x2560 ![] bcast_S_S1152x2560 main_cst
  let main_v4 : IVec S1152x2560 1 := cmpf .ole main_v2 main_v3
  let main_v5 : FVec F S1152x1 .f32 := Host.absf main_arg1
  let main_cst_0 : FVec F S_ .f32 := constant S_ .f32 0x7F7FFFFF#32
  let main_v6 : FVec F S1152x1 .f32 := broadcastInDim S1152x1 ![] bcast_S_S1152x1 main_cst_0
  let main_v7 : IVec S1152x1 1 := cmpf .ole main_v5 main_v6
  let main_v8 : FVec F S2560x5120 .f32 := Host.absf main_v0
  let main_cst_1 : FVec F S_ .f32 := constant S_ .f32 0x7F7FFFFF#32
  let main_v9 : FVec F S2560x5120 .f32 := broadcastInDim S2560x5120 ![] bcast_S_S2560x5120 main_cst_1
  let main_v10 : IVec S2560x5120 1 := cmpf .ole main_v8 main_v9
  let main_v11 : FVec F S5120 .f32 := Host.absf main_v1
  let main_cst_2 : FVec F S_ .f32 := constant S_ .f32 0x7F7FFFFF#32
  let main_v12 : FVec F S5120 .f32 := broadcastInDim S5120 ![] bcast_S_S5120 main_cst_2
  let main_v13 : IVec S5120 1 := cmpf .ole main_v11 main_v12
  (main_v4, main_v7, main_v10, main_v13)
-- ==== GateUp.lean ====
abbrev S1152x2560 : Shape := ⟨2, ![1152, 2560]⟩
abbrev S1152x1 : Shape := ⟨2, ![1152, 1]⟩
abbrev S2560x9728 : Shape := ⟨2, ![2560, 9728]⟩
abbrev S9728 : Shape := ⟨1, ![9728]⟩
abbrev S1x9728 : Shape := ⟨2, ![1, 9728]⟩
abbrev S1152x9728 : Shape := ⟨2, ![1152, 9728]⟩
abbrev S1152x128 : Shape := ⟨2, ![1152, 128]⟩
abbrev S2560x512 : Shape := ⟨2, ![2560, 512]⟩
abbrev S1x512 : Shape := ⟨2, ![1, 512]⟩
abbrev S1152x512 : Shape := ⟨2, ![1152, 512]⟩

abbrev nBuf : Space → Nat
  | .hbm => 10
  | .vmem => 13
  | .smem => 0
  | _ => 0

abbrev bufTy : (tb : Table) → Fin (tcTables nBuf tb) → BufTy
  | .hbm, ⟨0, _⟩ => ⟨S1152x2560, .fp8e4m3⟩
  | .hbm, ⟨1, _⟩ => ⟨S1152x1, .f32⟩
  | .hbm, ⟨2, _⟩ => ⟨S2560x9728, .fp8e4m3⟩
  | .hbm, ⟨3, _⟩ => ⟨S2560x9728, .fp8e4m3⟩
  | .hbm, ⟨4, _⟩ => ⟨S9728, .f32⟩
  | .hbm, ⟨5, _⟩ => ⟨S9728, .f32⟩
  | .hbm, ⟨6, _⟩ => ⟨S1x9728, .f32⟩
  | .hbm, ⟨7, _⟩ => ⟨S1x9728, .f32⟩
  | .hbm, ⟨8, _⟩ => ⟨S1152x9728, .f32⟩
  | .hbm, ⟨9, _⟩ => ⟨S1152x128, .f32⟩
  | .local _ .vmem, ⟨0, _⟩ => ⟨S1152x2560, .fp8e4m3⟩
  | .local _ .vmem, ⟨1, _⟩ => ⟨S1152x1, .f32⟩
  | .local _ .vmem, ⟨2, _⟩ => ⟨S2560x512, .fp8e4m3⟩
  | .local _ .vmem, ⟨3, _⟩ => ⟨S2560x512, .fp8e4m3⟩
  | .local _ .vmem, ⟨4, _⟩ => ⟨S2560x512, .fp8e4m3⟩
  | .local _ .vmem, ⟨5, _⟩ => ⟨S2560x512, .fp8e4m3⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1152x512, .f32⟩
  | .local _ .vmem, ⟨11, _⟩ => ⟨S1152x512, .f32⟩
  | .local _ .vmem, ⟨12, _⟩ => ⟨S1152x128, .f32⟩
  | _, _ => ⟨S1152x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1152x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1152x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2560x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2560x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1152x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1152x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GateUpRefIdeal.lean ====
abbrev S1152x2560 : Shape := ⟨2, ![1152, 2560]⟩
abbrev S1152x1 : Shape := ⟨2, ![1152, 1]⟩
abbrev S2560x9728 : Shape := ⟨2, ![2560, 9728]⟩
abbrev S9728 : Shape := ⟨1, ![9728]⟩
abbrev S1x9728 : Shape := ⟨2, ![1, 9728]⟩
abbrev S1152x9728 : Shape := ⟨2, ![1152, 9728]⟩
abbrev S1152x76x128 : Shape := ⟨3, ![1152, 76, 128]⟩
abbrev S_ : Shape := ⟨0, ![]⟩
abbrev S1152x128 : Shape := ⟨2, ![1152, 128]⟩

abbrev nBuf : Space → Nat
  | .hbm => 13
  | .vmem => 7
  | .smem => 0
  | _ => 0

abbrev bufTy : (tb : Table) → Fin (tcTables nBuf tb) → BufTy
  | .hbm, ⟨0, _⟩ => ⟨S1152x2560, .fp8e4m3⟩
  | .hbm, ⟨1, _⟩ => ⟨S1152x1, .f32⟩
  | .hbm, ⟨2, _⟩ => ⟨S2560x9728, .fp8e4m3⟩
  | .hbm, ⟨3, _⟩ => ⟨S2560x9728, .fp8e4m3⟩
  | .hbm, ⟨4, _⟩ => ⟨S9728, .f32⟩
  | .hbm, ⟨5, _⟩ => ⟨S9728, .f32⟩
  | .hbm, ⟨6, _⟩ => ⟨S1x9728, .f32⟩
  | .hbm, ⟨7, _⟩ => ⟨S1x9728, .f32⟩
  | .hbm, ⟨8, _⟩ => ⟨S1152x9728, .f32⟩
  | .hbm, ⟨9, _⟩ => ⟨S1152x9728, .f32⟩
  | .hbm, ⟨10, _⟩ => ⟨S1152x76x128, .f32⟩
  | .hbm, ⟨11, _⟩ => ⟨S_, .f32⟩
  | .hbm, ⟨12, _⟩ => ⟨S1152x128, .f32⟩
  | .local _ .vmem, ⟨0, _⟩ => ⟨S1152x2560, .fp8e4m3⟩
  | .local _ .vmem, ⟨1, _⟩ => ⟨S1152x1, .f32⟩
  | .local _ .vmem, ⟨2, _⟩ => ⟨S2560x9728, .fp8e4m3⟩
  | .local _ .vmem, ⟨3, _⟩ => ⟨S2560x9728, .fp8e4m3⟩
  | .local _ .vmem, ⟨4, _⟩ => ⟨S1x9728, .f32⟩
  | .local _ .vmem, ⟨5, _⟩ => ⟨S1x9728, .f32⟩
  | .local _ .vmem, ⟨6, _⟩ => ⟨S1152x9728, .f32⟩
  | _, _ => ⟨S1152x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1152x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1152x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x9728 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2560x9728 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x9728 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x9728 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1152x9728 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Down.lean ====
abbrev S4x4 : Shape := ⟨2, ![4, 4]⟩
abbrev S4 : Shape := ⟨1, ![4]⟩
abbrev S1152x9728 : Shape := ⟨2, ![1152, 9728]⟩
abbrev S1152x128 : Shape := ⟨2, ![1152, 128]⟩
abbrev S9728x2560 : Shape := ⟨2, ![9728, 2560]⟩
abbrev S2560 : Shape := ⟨1, ![2560]⟩
abbrev S4x1152x2560 : Shape := ⟨3, ![4, 1152, 2560]⟩
abbrev S1152x2560 : Shape := ⟨2, ![1152, 2560]⟩
abbrev S4x1 : Shape := ⟨2, ![4, 1]⟩
abbrev S4x6 : Shape := ⟨2, ![4, 6]⟩
abbrev S1x2560 : Shape := ⟨2, ![1, 2560]⟩
abbrev S1152x1 : Shape := ⟨2, ![1152, 1]⟩
abbrev S128x9728 : Shape := ⟨2, ![128, 9728]⟩
abbrev S128x128 : Shape := ⟨2, ![128, 128]⟩
abbrev S4x128x2560 : Shape := ⟨3, ![4, 128, 2560]⟩
abbrev S128x2560 : Shape := ⟨2, ![128, 2560]⟩
abbrev S128x1 : Shape := ⟨2, ![128, 1]⟩
abbrev S128 : Shape := ⟨1, ![128]⟩
abbrev S1x1 : Shape := ⟨2, ![1, 1]⟩
abbrev S1x128x2560 : Shape := ⟨3, ![1, 128, 2560]⟩

abbrev nBuf : Space → Nat
  | .hbm => 20
  | .vmem => 16
  | .smem => 1
  | _ => 0

abbrev bufTy : (tb : Table) → Fin (tcTables nBuf tb) → BufTy
  | .hbm, ⟨0, _⟩ => ⟨S4x4, .f32⟩
  | .hbm, ⟨1, _⟩ => ⟨S4, .f32⟩
  | .hbm, ⟨2, _⟩ => ⟨S4x4, .f32⟩
  | .hbm, ⟨3, _⟩ => ⟨S4, .f32⟩
  | .hbm, ⟨4, _⟩ => ⟨S1152x9728, .f32⟩
  | .hbm, ⟨5, _⟩ => ⟨S1152x128, .f32⟩
  | .hbm, ⟨6, _⟩ => ⟨S9728x2560, .fp8e4m3⟩
  | .hbm, ⟨7, _⟩ => ⟨S2560, .f32⟩
  | .hbm, ⟨8, _⟩ => ⟨S4x1152x2560, .bf16⟩
  | .hbm, ⟨9, _⟩ => ⟨S1152x2560, .f32⟩
  | .hbm, ⟨10, _⟩ => ⟨S4x4, .f32⟩
  | .hbm, ⟨11, _⟩ => ⟨S4x4, .f32⟩
  | .hbm, ⟨12, _⟩ => ⟨S4, .f32⟩
  | .hbm, ⟨13, _⟩ => ⟨S4x1, .f32⟩
  | .hbm, ⟨14, _⟩ => ⟨S4x1, .f32⟩
  | .hbm, ⟨15, _⟩ => ⟨S4x6, .f32⟩
  | .hbm, ⟨16, _⟩ => ⟨S1x2560, .f32⟩
  | .hbm, ⟨17, _⟩ => ⟨S1152x9728, .fp8e4m3⟩
  | .hbm, ⟨18, _⟩ => ⟨S1152x1, .f32⟩
  | .hbm, ⟨19, _⟩ => ⟨S4x1152x2560, .bf16⟩
  | .local _ .vmem, ⟨0, _⟩ => ⟨S128x9728, .f32⟩
  | .local _ .vmem, ⟨1, _⟩ => ⟨S128x9728, .f32⟩
  | .local _ .vmem, ⟨2, _⟩ => ⟨S128x128, .f32⟩
  | .local _ .vmem, ⟨3, _⟩ => ⟨S128x128, .f32⟩
  | .local _ .vmem, ⟨4, _⟩ => ⟨S9728x2560, .fp8e4m3⟩
  | .local _ .vmem, ⟨5, _⟩ => ⟨S1x2560, .f32⟩
  | .local _ .vmem, ⟨6, _⟩ => ⟨S4x128x2560, .bf16⟩
  | .local _ .vmem, ⟨7, _⟩ => ⟨S4x128x2560, .bf16⟩
  | .local _ .vmem, ⟨8, _⟩ => ⟨S128x2560, .f32⟩
  | .local _ .vmem, ⟨9, _⟩ => ⟨S128x2560, .f32⟩
  | .local _ .vmem, ⟨10, _⟩ => ⟨S128x9728, .fp8e4m3⟩
  | .local _ .vmem, ⟨11, _⟩ => ⟨S128x9728, .fp8e4m3⟩
  | .local _ .vmem, ⟨12, _⟩ => ⟨S128x1, .f32⟩
  | .local _ .vmem, ⟨13, _⟩ => ⟨S128x1, .f32⟩
  | .local _ .vmem, ⟨14, _⟩ => ⟨S4x128x2560, .bf16⟩
  | .local _ .vmem, ⟨15, _⟩ => ⟨S4x128x2560, .bf16⟩
  | .local _ .smem, ⟨0, _⟩ => ⟨S4x6, .f32⟩
  | _, _ => ⟨S4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .smem S4x6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x9728 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S9728x2560 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x128x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x9728 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x128x2560 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== DownRefIdeal.lean ====
abbrev S4x4 : Shape := ⟨2, ![4, 4]⟩
abbrev S4 : Shape := ⟨1, ![4]⟩
abbrev S1152x9728 : Shape := ⟨2, ![1152, 9728]⟩
abbrev S1152x128 : Shape := ⟨2, ![1152, 128]⟩
abbrev S9728x2560 : Shape := ⟨2, ![9728, 2560]⟩
abbrev S2560 : Shape := ⟨1, ![2560]⟩
abbrev S4x1152x2560 : Shape := ⟨3, ![4, 1152, 2560]⟩
abbrev S1152x2560 : Shape := ⟨2, ![1152, 2560]⟩
abbrev S_ : Shape := ⟨0, ![]⟩
abbrev S1152 : Shape := ⟨1, ![1152]⟩
abbrev S1152x1 : Shape := ⟨2, ![1152, 1]⟩
abbrev S1x254 : Shape := ⟨2, ![1, 254]⟩
abbrev S1152x254 : Shape := ⟨2, ![1152, 254]⟩
abbrev S1x2560 : Shape := ⟨2, ![1, 2560]⟩
abbrev S4x1x1 : Shape := ⟨3, ![4, 1, 1]⟩
abbrev S1x1152x2560 : Shape := ⟨3, ![1, 1152, 2560]⟩

abbrev nBuf : Space → Nat
  | .hbm => 61
  | .vmem => 6
  | .smem => 0
  | _ => 0

abbrev bufTy : (tb : Table) → Fin (tcTables nBuf tb) → BufTy
  | .hbm, ⟨0, _⟩ => ⟨S4x4, .f32⟩
  | .hbm, ⟨1, _⟩ => ⟨S4, .f32⟩
  | .hbm, ⟨2, _⟩ => ⟨S4x4, .f32⟩
  | .hbm, ⟨3, _⟩ => ⟨S4, .f32⟩
  | .hbm, ⟨4, _⟩ => ⟨S1152x9728, .f32⟩
  | .hbm, ⟨5, _⟩ => ⟨S1152x128, .f32⟩
  | .hbm, ⟨6, _⟩ => ⟨S9728x2560, .fp8e4m3⟩
  | .hbm, ⟨7, _⟩ => ⟨S2560, .f32⟩
  | .hbm, ⟨8, _⟩ => ⟨S4x1152x2560, .bf16⟩
  | .hbm, ⟨9, _⟩ => ⟨S1152x2560, .f32⟩
  | .hbm, ⟨10, _⟩ => ⟨S_, .f32⟩
  | .hbm, ⟨11, _⟩ => ⟨S1152, .f32⟩
  | .hbm, ⟨12, _⟩ => ⟨S1152x1, .f32⟩
  | .hbm, ⟨13, _⟩ => ⟨S_, .f32⟩
  | .hbm, ⟨14, _⟩ => ⟨S1152x1, .f32⟩
  | .hbm, ⟨15, _⟩ => ⟨S1152x1, .f32⟩
  | .hbm, ⟨16, _⟩ => ⟨S1x254, .i32⟩
  | .hbm, ⟨17, _⟩ => ⟨S_, .i32⟩
  | .hbm, ⟨18, _⟩ => ⟨S1x254, .i32⟩
  | .hbm, ⟨19, _⟩ => ⟨S1x254, .i32⟩
  | .hbm, ⟨20, _⟩ => ⟨S1x254, .f32⟩
  | .hbm, ⟨21, _⟩ => ⟨S_, .f32⟩
  | .hbm, ⟨22, _⟩ => ⟨S1x254, .f32⟩
  | .hbm, ⟨23, _⟩ => ⟨S1x254, .f32⟩
  | .hbm, ⟨24, _⟩ => ⟨S1152x254, .f32⟩
  | .hbm, ⟨25, _⟩ => ⟨S1152x254, .f32⟩
  | .hbm, ⟨26, _⟩ => ⟨S1152x254, .i1⟩
  | .hbm, ⟨27, _⟩ => ⟨S_, .f32⟩
  | .hbm, ⟨28, _⟩ => ⟨S_, .f32⟩
  | .hbm, ⟨29, _⟩ => ⟨S1152x254, .f32⟩
  | .hbm, ⟨30, _⟩ => ⟨S1152x254, .f32⟩
  | .hbm, ⟨31, _⟩ => ⟨S1152x254, .f32⟩
  | .hbm, ⟨32, _⟩ => ⟨S_, .f32⟩
  | .hbm, ⟨33, _⟩ => ⟨S1152, .f32⟩
  | .hbm, ⟨34, _⟩ => ⟨S1152x1, .f32⟩
  | .hbm, ⟨35, _⟩ => ⟨S_, .f32⟩
  | .hbm, ⟨36, _⟩ => ⟨S1152x1, .f32⟩
  | .hbm, ⟨37, _⟩ => ⟨S1152x1, .i1⟩
  | .hbm, ⟨38, _⟩ => ⟨S_, .f32⟩
  | .hbm, ⟨39, _⟩ => ⟨S_, .f32⟩
  | .hbm, ⟨40, _⟩ => ⟨S1152x1, .f32⟩
  | .hbm, ⟨41, _⟩ => ⟨S1152x1, .f32⟩
  | .hbm, ⟨42, _⟩ => ⟨S1x2560, .f32⟩
  | .hbm, ⟨43, _⟩ => ⟨S1152x9728, .fp8e4m3⟩
  | .hbm, ⟨44, _⟩ => ⟨S1152x2560, .f32⟩
  | .hbm, ⟨45, _⟩ => ⟨S4x1152x2560, .f32⟩
  | .hbm, ⟨46, _⟩ => ⟨S4x1152x2560, .f32⟩
  | .hbm, ⟨47, _⟩ => ⟨S4x1x1, .f32⟩
  | .hbm, ⟨48, _⟩ => ⟨S1x1152x2560, .f32⟩
  | .hbm, ⟨49, _⟩ => ⟨S4x1152x2560, .f32⟩
  | .hbm, ⟨50, _⟩ => ⟨S4x1152x2560, .f32⟩
  | .hbm, ⟨51, _⟩ => ⟨S4x1152x2560, .f32⟩
  | .hbm, ⟨52, _⟩ => ⟨S4x1152x2560, .f32⟩
  | .hbm, ⟨53, _⟩ => ⟨S4x1152x2560, .f32⟩
  | .hbm, ⟨54, _⟩ => ⟨S4x1x1, .f32⟩
  | .hbm, ⟨55, _⟩ => ⟨S1x1152x2560, .f32⟩
  | .hbm, ⟨56, _⟩ => ⟨S4x1152x2560, .f32⟩
  | .hbm, ⟨57, _⟩ => ⟨S4x1152x2560, .f32⟩
  | .hbm, ⟨58, _⟩ => ⟨S4x1152x2560, .f32⟩
  | .hbm, ⟨59, _⟩ => ⟨S4x1152x2560, .f32⟩
  | .hbm, ⟨60, _⟩ => ⟨S4x1152x2560, .bf16⟩
  | .local _ .vmem, ⟨0, _⟩ => ⟨S1152x9728, .f32⟩
  | .local _ .vmem, ⟨1, _⟩ => ⟨S1152x1, .f32⟩
  | .local _ .vmem, ⟨2, _⟩ => ⟨S9728x2560, .fp8e4m3⟩
  | .local _ .vmem, ⟨3, _⟩ => ⟨S1x2560, .f32⟩
  | .local _ .vmem, ⟨4, _⟩ => ⟨S1152x9728, .fp8e4m3⟩
  | .local _ .vmem, ⟨5, _⟩ => ⟨S1152x2560, .f32⟩
  | _, _ => ⟨S4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_cst_4 : Ref sig .tc := ⟨.hbm, 35, rfl⟩
abbrev main_v16 : Ref sig .tc := ⟨.hbm, 36, rfl⟩
abbrev main_v17 : Ref sig .tc := ⟨.hbm, 37, rfl⟩
abbrev main_cst_5 : Ref sig .tc := ⟨.hbm, 38, rfl⟩
abbrev main_call1_v0 : Ref sig .tc := ⟨.hbm, 39, rfl⟩
abbrev main_call1_v1 : Ref sig .tc := ⟨.hbm, 40, rfl⟩
abbrev main_v18 : Ref sig .tc := ⟨.hbm, 41, rfl⟩
abbrev main_v19 : Ref sig .tc := ⟨.hbm, 42, rfl⟩
abbrev main_v20_0 : Ref sig .tc := ⟨.hbm, 43, rfl⟩
abbrev main_v20_1 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1152x9728 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1152x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9728x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1152x9728 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1152x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Attn.lean ====
abbrev S1152x2560 : Shape := ⟨2, ![1152, 2560]⟩
abbrev S1152x1 : Shape := ⟨2, ![1152, 1]⟩
abbrev S2560x6144 : Shape := ⟨2, ![2560, 6144]⟩
abbrev S6144 : Shape := ⟨1, ![6144]⟩
abbrev S1x6144 : Shape := ⟨2, ![1, 6144]⟩
abbrev S1152x4096 : Shape := ⟨2, ![1152, 4096]⟩
abbrev S2560x512 : Shape := ⟨2, ![2560, 512]⟩
abbrev S2560x128 : Shape := ⟨2, ![2560, 128]⟩
abbrev S1x512 : Shape := ⟨2, ![1, 512]⟩
abbrev S1x128 : Shape := ⟨2, ![1, 128]⟩
abbrev S1152x512 : Shape := ⟨2, ![1152, 512]⟩
abbrev S1152x128 : Shape := ⟨2, ![1152, 128]⟩
abbrev S128x128 : Shape := ⟨2, ![128, 128]⟩
abbrev S512x128 : Shape := ⟨2, ![512, 128]⟩
abbrev S512 : Shape := ⟨1, ![512]⟩
abbrev S512x1 : Shape := ⟨2, ![512, 1]⟩
abbrev S256x128 : Shape := ⟨2, ![256, 128]⟩
abbrev S512x256 : Shape := ⟨2, ![512, 256]⟩
abbrev S384x128 : Shape := ⟨2, ![384, 128]⟩
abbrev S512x384 : Shape := ⟨2, ![512, 384]⟩

abbrev nBuf : Space → Nat
  | .hbm => 8
  | .vmem => 19
  | .smem => 0
  | _ => 0

abbrev bufTy : (tb : Table) → Fin (tcTables nBuf tb) → BufTy
  | .hbm, ⟨0, _⟩ => ⟨S1152x2560, .f32⟩
  | .hbm, ⟨1, _⟩ => ⟨S1152x1, .f32⟩
  | .hbm, ⟨2, _⟩ => ⟨S2560x6144, .f32⟩
  | .hbm, ⟨3, _⟩ => ⟨S6144, .f32⟩
  | .hbm, ⟨4, _⟩ => ⟨S1152x2560, .fp8e4m3⟩
  | .hbm, ⟨5, _⟩ => ⟨S2560x6144, .fp8e4m3⟩
  | .hbm, ⟨6, _⟩ => ⟨S1x6144, .f32⟩
  | .hbm, ⟨7, _⟩ => ⟨S1152x4096, .f32⟩
  | .local _ .vmem, ⟨0, _⟩ => ⟨S1152x2560, .fp8e4m3⟩
  | .local _ .vmem, ⟨1, _⟩ => ⟨S1152x1, .f32⟩
  | .local _ .vmem, ⟨2, _⟩ => ⟨S2560x512, .fp8e4m3⟩
  | .local _ .vmem, ⟨3, _⟩ => ⟨S2560x512, .fp8e4m3⟩
  | .local _ .vmem, ⟨4, _⟩ => ⟨S2560x128, .fp8e4m3⟩
  | .local _ .vmem, ⟨5, _⟩ => ⟨S2560x128, .fp8e4m3⟩
  | .local _ .vmem, ⟨6, _⟩ => ⟨S2560x128, .fp8e4m3⟩
  | .local _ .vmem, ⟨7, _⟩ => ⟨S2560x128, .fp8e4m3⟩
  | .local _ .vmem, ⟨8, _⟩ => ⟨S1x512, .f32⟩
  | .local _ .vmem, ⟨9, _⟩ => ⟨S1x512, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1152x512, .f32⟩
  | .local _ .vmem, ⟨15, _⟩ => ⟨S1152x512, .f32⟩
  | .local _ .vmem, ⟨16, _⟩ => ⟨S1152x512, .bf16⟩
  | .local _ .vmem, ⟨17, _⟩ => ⟨S1152x128, .bf16⟩
  | .local _ .vmem, ⟨18, _⟩ => ⟨S1152x128, .bf16⟩
  | _, _ => ⟨S1152x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1152x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1152x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2560x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2560x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2560x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1152x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnRefIdeal.lean ====
abbrev S1152x2560 : Shape := ⟨2, ![1152, 2560]⟩
abbrev S1152x1 : Shape := ⟨2, ![1152, 1]⟩
abbrev S2560x6144 : Shape := ⟨2, ![2560, 6144]⟩
abbrev S6144 : Shape := ⟨1, ![6144]⟩
abbrev S1x6144 : Shape := ⟨2, ![1, 6144]⟩
abbrev S1152x6144 : Shape := ⟨2, ![1152, 6144]⟩
abbrev S3x384x6144 : Shape := ⟨3, ![3, 384, 6144]⟩
abbrev S3x384x4096 : Shape := ⟨3, ![3, 384, 4096]⟩
abbrev S3x384x8x4x128 : Shape := ⟨5, ![3, 384, 8, 4, 128]⟩
abbrev S3x384x1024 : Shape := ⟨3, ![3, 384, 1024]⟩
abbrev S3x384x8x128 : Shape := ⟨4, ![3, 384, 8, 128]⟩
abbrev S3x8x384x384x4 : Shape := ⟨5, ![3, 8, 384, 384, 4]⟩
abbrev S3x8x4x384x384 : Shape := ⟨5, ![3, 8, 4, 384, 384]⟩
abbrev S_ : Shape := ⟨0, ![]⟩
abbrev S384 : Shape := ⟨1, ![384]⟩
abbrev S1x384 : Shape := ⟨2, ![1, 384]⟩
abbrev S384x1 : Shape := ⟨2, ![384, 1]⟩
abbrev S384x384 : Shape := ⟨2, ![384, 384]⟩
abbrev S3x8x4x384 : Shape := ⟨4, ![3, 8, 4, 384]⟩
abbrev S3x8x4x384x1 : Shape := ⟨5, ![3, 8, 4, 384, 1]⟩
abbrev S3x8x128x4x384 : Shape := ⟨5, ![3, 8, 128, 4, 384]⟩
abbrev S1152x4096 : Shape := ⟨2, ![1152, 4096]⟩

abbrev nBuf : Space → Nat
  | .hbm => 52
  | .vmem => 5
  | .smem => 0
  | _ => 0

abbrev bufTy : (tb : Table) → Fin (tcTables nBuf tb) → BufTy
  | .hbm, ⟨0, _⟩ => ⟨S1152x2560, .f32⟩
  | .hbm, ⟨1, _⟩ => ⟨S1152x1, .f32⟩
  | .hbm, ⟨2, _⟩ => ⟨S2560x6144, .f32⟩
  | .hbm, ⟨3, _⟩ => ⟨S6144, .f32⟩
  | .hbm, ⟨4, _⟩ => ⟨S1152x2560, .fp8e4m3⟩
  | .hbm, ⟨5, _⟩ => ⟨S2560x6144, .fp8e4m3⟩
  | .hbm, ⟨6, _⟩ => ⟨S1x6144, .f32⟩
  | .hbm, ⟨7, _⟩ => ⟨S1152x6144, .f32⟩
  | .hbm, ⟨8, _⟩ => ⟨S3x384x6144, .f32⟩
  | .hbm, ⟨9, _⟩ => ⟨S3x384x4096, .f32⟩
  | .hbm, ⟨10, _⟩ => ⟨S3x384x4096, .bf16⟩
  | .hbm, ⟨11, _⟩ => ⟨S3x384x8x4x128, .bf16⟩
  | .hbm, ⟨12, _⟩ => ⟨S3x384x1024, .f32⟩
  | .hbm, ⟨13, _⟩ => ⟨S3x384x1024, .bf16⟩
  | .hbm, ⟨14, _⟩ => ⟨S3x384x8x128, .bf16⟩
  | .hbm, ⟨15, _⟩ => ⟨S3x384x1024, .f32⟩
  | .hbm, ⟨16, _⟩ => ⟨S3x384x1024, .bf16⟩
  | .hbm, ⟨17, _⟩ => ⟨S3x384x8x128, .bf16⟩
  | .hbm, ⟨18, _⟩ => ⟨S3x8x384x384x4, .f32⟩
  | .hbm, ⟨19, _⟩ => ⟨S3x8x4x384x384, .f32⟩
  | .hbm, ⟨20, _⟩ => ⟨S_, .f32⟩
  | .hbm, ⟨21, _⟩ => ⟨S3x8x4x384x384, .f32⟩
  | .hbm, ⟨22, _⟩ => ⟨S3x8x4x384x384, .f32⟩
  | .hbm, ⟨23, _⟩ => ⟨S384, .i32⟩
  | .hbm, ⟨24, _⟩ => ⟨S1x384, .i32⟩
  | .hbm, ⟨25, _⟩ => ⟨S384x1, .i32⟩
  | .hbm, ⟨26, _⟩ => ⟨S384x384, .i32⟩
  | .hbm, ⟨27, _⟩ => ⟨S384x384, .i32⟩
  | .hbm, ⟨28, _⟩ => ⟨S384x384, .i1⟩
  | .hbm, ⟨29, _⟩ => ⟨S_, .f32⟩
  | .hbm, ⟨30, _⟩ => ⟨S_, .f32⟩
  | .hbm, ⟨31, _⟩ => ⟨S3x8x4x384x384, .i1⟩
  | .hbm, ⟨32, _⟩ => ⟨S3x8x4x384x384, .f32⟩
  | .hbm, ⟨33, _⟩ => ⟨S3x8x4x384x384, .f32⟩
  | .hbm, ⟨34, _⟩ => ⟨S_, .f32⟩
  | .hbm, ⟨35, _⟩ => ⟨S3x8x4x384, .f32⟩
  | .hbm, ⟨36, _⟩ => ⟨S_, .f32⟩
  | .hbm, ⟨37, _⟩ => ⟨S3x8x4x384, .f32⟩
  | .hbm, ⟨38, _⟩ => ⟨S3x8x4x384, .f32⟩
  | .hbm, ⟨39, _⟩ => ⟨S3x8x4x384x1, .f32⟩
  | .hbm, ⟨40, _⟩ => ⟨S3x8x4x384x384, .f32⟩
  | .hbm, ⟨41, _⟩ => ⟨S3x8x4x384x384, .f32⟩
  | .hbm, ⟨42, _⟩ => ⟨S3x8x4x384x384, .f32⟩
  | .hbm, ⟨43, _⟩ => ⟨S_, .f32⟩
  | .hbm, ⟨44, _⟩ => ⟨S3x8x4x384, .f32⟩
  | .hbm, ⟨45, _⟩ => ⟨S3x8x4x384x1, .f32⟩
  | .hbm, ⟨46, _⟩ => ⟨S3x8x4x384x384, .f32⟩
  | .hbm, ⟨47, _⟩ => ⟨S3x8x4x384x384, .f32⟩
  | .hbm, ⟨48, _⟩ => ⟨S3x8x4x384x384, .bf16⟩
  | .hbm, ⟨49, _⟩ => ⟨S3x8x128x4x384, .f32⟩
  | .hbm, ⟨50, _⟩ => ⟨S3x384x8x4x128, .f32⟩
  | .hbm, ⟨51, _⟩ => ⟨S1152x4096, .f32⟩
  | .local _ .vmem, ⟨0, _⟩ => ⟨S1152x2560, .fp8e4m3⟩
  | .local _ .vmem, ⟨1, _⟩ => ⟨S1152x1, .f32⟩
  | .local _ .vmem, ⟨2, _⟩ => ⟨S2560x6144, .fp8e4m3⟩
  | .local _ .vmem, ⟨3, _⟩ => ⟨S1x6144, .f32⟩
  | .local _ .vmem, ⟨4, _⟩ => ⟨S1152x6144, .f32⟩
  | _, _ => ⟨S1152x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1152x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1152x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x6144 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1152x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== AttnOut.lean ====
abbrev S4x4 : Shape := ⟨2, ![4, 4]⟩
abbrev S4 : Shape := ⟨1, ![4]⟩
abbrev S1152x4096 : Shape := ⟨2, ![1152, 4096]⟩
abbrev S4096x2560 : Shape := ⟨2, ![4096, 2560]⟩
abbrev S2560 : Shape := ⟨1, ![2560]⟩
abbrev S4x1152x2560 : Shape := ⟨3, ![4, 1152, 2560]⟩
abbrev S1x4 : Shape := ⟨2, ![1, 4]⟩
abbrev S1 : Shape := ⟨1, ![1]⟩
abbrev S5 : Shape := ⟨1, ![5]⟩
abbrev S1x2560 : Shape := ⟨2, ![1, 2560]⟩
abbrev S1152x1 : Shape := ⟨2, ![1152, 1]⟩
abbrev S1152x2560 : Shape := ⟨2, ![1152, 2560]⟩
abbrev S192x4096 : Shape := ⟨2, ![192, 4096]⟩
abbrev S4x192x2560 : Shape := ⟨3, ![4, 192, 2560]⟩
abbrev S192x1 : Shape := ⟨2, ![192, 1]⟩
abbrev S192x2560 : Shape := ⟨2, ![192, 2560]⟩
abbrev S192 : Shape := ⟨1, ![192]⟩
abbrev S1x192x2560 : Shape := ⟨3, ![1, 192, 2560]⟩

abbrev nBuf : Space → Nat
  | .hbm => 20
  | .vmem => 17
  | .smem => 1
  | _ => 0

abbrev bufTy : (tb : Table) → Fin (tcTables nBuf tb) → BufTy
  | .hbm, ⟨0, _⟩ => ⟨S4x4, .f32⟩
  | .hbm, ⟨1, _⟩ => ⟨S4, .f32⟩
  | .hbm, ⟨2, _⟩ => ⟨S4, .f32⟩
  | .hbm, ⟨3, _⟩ => ⟨S1152x4096, .f32⟩
  | .hbm, ⟨4, _⟩ => ⟨S4096x2560, .f32⟩
  | .hbm, ⟨5, _⟩ => ⟨S2560, .f32⟩
  | .hbm, ⟨6, _⟩ => ⟨S4x1152x2560, .bf16⟩
  | .hbm, ⟨7, _⟩ => ⟨S2560, .f32⟩
  | .hbm, ⟨8, _⟩ => ⟨S4, .f32⟩
  | .hbm, ⟨9, _⟩ => ⟨S1x4, .f32⟩
  | .hbm, ⟨10, _⟩ => ⟨S1, .f32⟩
  | .hbm, ⟨11, _⟩ => ⟨S5, .f32⟩
  | .hbm, ⟨12, _⟩ => ⟨S4096x2560, .fp8e4m3⟩
  | .hbm, ⟨13, _⟩ => ⟨S1x2560, .f32⟩
  | .hbm, ⟨14, _⟩ => ⟨S1x2560, .f32⟩
  | .hbm, ⟨15, _⟩ => ⟨S1152x4096, .fp8e4m3⟩
  | .hbm, ⟨16, _⟩ => ⟨S1152x1, .f32⟩
  | .hbm, ⟨17, _⟩ => ⟨S1152x2560, .f32⟩
  | .hbm, ⟨18, _⟩ => ⟨S1152x2560, .fp8e4m3⟩
  | .hbm, ⟨19, _⟩ => ⟨S1152x1, .f32⟩
  | .local _ .vmem, ⟨0, _⟩ => ⟨S192x4096, .f32⟩
  | .local _ .vmem, ⟨1, _⟩ => ⟨S192x4096, .f32⟩
  | .local _ .vmem, ⟨2, _⟩ => ⟨S4096x2560, .fp8e4m3⟩
  | .local _ .vmem, ⟨3, _⟩ => ⟨S1x2560, .f32⟩
  | .local _ .vmem, ⟨4, _⟩ => ⟨S4x192x2560, .bf16⟩
  | .local _ .vmem, ⟨5, _⟩ => ⟨S4x192x2560, .bf16⟩
  | .local _ .vmem, ⟨6, _⟩ => ⟨S1x2560, .f32⟩
  | .local _ .vmem, ⟨7, _⟩ => ⟨S192x4096, .fp8e4m3⟩
  | .local _ .vmem, ⟨8, _⟩ => ⟨S192x4096, .fp8e4m3⟩
  | .local _ .vmem, ⟨9, _⟩ => ⟨S192x1, .f32⟩
  | .local _ .vmem, ⟨10, _⟩ => ⟨S192x1, .f32⟩
  | .local _ .vmem, ⟨11, _⟩ => ⟨S192x2560, .f32⟩
  | .local _ .vmem, ⟨12, _⟩ => ⟨S192x2560, .f32⟩
  | .local _ .vmem, ⟨13, _⟩ => ⟨S192x2560, .fp8e4m3⟩
  | .local _ .vmem, ⟨14, _⟩ => ⟨S192x2560, .fp8e4m3⟩
  | .local _ .vmem, ⟨15, _⟩ => ⟨S192x1, .f32⟩
  | .local _ .vmem, ⟨16, _⟩ => ⟨S192x1, .f32⟩
  | .local _ .smem, ⟨0, _⟩ => ⟨S5, .f32⟩
  | _, _ => ⟨S4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![6], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S5 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S192x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x192x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S192x4096 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S192x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S192x2560 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S192x2560 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S192x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AttnOutRefIdeal.lean ====
abbrev S4x4 : Shape := ⟨2, ![4, 4]⟩
abbrev S4 : Shape := ⟨1, ![4]⟩
abbrev S1152x4096 : Shape := ⟨2, ![1152, 4096]⟩
abbrev S4096x2560 : Shape := ⟨2, ![4096, 2560]⟩
abbrev S2560 : Shape := ⟨1, ![2560]⟩
abbrev S4x1152x2560 : Shape := ⟨3, ![4, 1152, 2560]⟩
abbrev S1x2560 : Shape := ⟨2, ![1, 2560]⟩
abbrev S1152x1 : Shape := ⟨2, ![1152, 1]⟩
abbrev S1152x2560 : Shape := ⟨2, ![1152, 2560]⟩
abbrev S1152 : Shape := ⟨1, ![1152]⟩
abbrev S1x254 : Shape := ⟨2, ![1, 254]⟩
abbrev S1152x254 : Shape := ⟨2, ![1152, 254]⟩
abbrev S1x1152x2560 : Shape := ⟨3, ![1, 1152, 2560]⟩
abbrev S1x1 : Shape := ⟨2, ![1, 1]⟩
abbrev S1 : Shape := ⟨1, ![1]⟩

abbrev nBuf : Space → Nat
  | .hbm => 16
  | .vmem => 10
  | .smem => 3
  | _ => 0

abbrev bufTy : (tb : Table) → Fin (tcTables nBuf tb) → BufTy
  | .hbm, ⟨0, _⟩ => ⟨S4x4, .f32⟩
  | .hbm, ⟨1, _⟩ => ⟨S4, .f32⟩
  | .hbm, ⟨2, _⟩ => ⟨S4, .f32⟩
  | .hbm, ⟨3, _⟩ => ⟨S1152x4096, .f32⟩
  | .hbm, ⟨4, _⟩ => ⟨S4096x2560, .f32⟩
  | .hbm, ⟨5, _⟩ => ⟨S2560, .f32⟩
  | .hbm, ⟨6, _⟩ => ⟨S4x1152x2560, .bf16⟩
  | .hbm, ⟨7, _⟩ => ⟨S2560, .f32⟩
  | .hbm, ⟨8, _⟩ => ⟨S4096x2560, .fp8e4m3⟩
  | .hbm, ⟨9, _⟩ => ⟨S1x2560, .f32⟩
  | .hbm, ⟨10, _⟩ => ⟨S1x2560, .f32⟩
  | .hbm, ⟨11, _⟩ => ⟨S1152x4096, .fp8e4m3⟩
  | .hbm, ⟨12, _⟩ => ⟨S1152x1, .f32⟩
  | .hbm, ⟨13, _⟩ => ⟨S1152x2560, .f32⟩
  | .hbm, ⟨14, _⟩ => ⟨S1152x2560, .fp8e4m3⟩
  | .hbm, ⟨15, _⟩ => ⟨S1152x1, .f32⟩
  | .local _ .vmem, ⟨0, _⟩ => ⟨S1152x4096, .f32⟩
  | .local _ .vmem, ⟨1, _⟩ => ⟨S4096x2560, .fp8e4m3⟩
  | .local _ .vmem, ⟨2, _⟩ => ⟨S1x2560, .f32⟩
  | .local _ .vmem, ⟨3, _⟩ => ⟨S4x1152x2560, .bf16⟩
  | .local _ .vmem, ⟨4, _⟩ => ⟨S1x2560, .f32⟩
  | .local _ .vmem, ⟨5, _⟩ => ⟨S1152x4096, .fp8e4m3⟩
  | .local _ .vmem, ⟨6, _⟩ => ⟨S1152x1, .f32⟩
  | .local _ .vmem, ⟨7, _⟩ => ⟨S1152x2560, .f32⟩
  | .local _ .vmem, ⟨8, _⟩ => ⟨S1152x2560, .fp8e4m3⟩
  | .local _ .vmem, ⟨9, _⟩ => ⟨S1152x1, .f32⟩
  | .local _ .smem, ⟨0, _⟩ => ⟨S4x4, .f32⟩
  | .local _ .smem, ⟨1, _⟩ => ⟨S4, .f32⟩
  | .local _ .smem, ⟨2, _⟩ => ⟨S4, .f32⟩
  | _, _ => ⟨S4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg9_0 : Ref sig .tc := ⟨.vmem, 6, rfl⟩
abbrev cc0_stg10_0 : Ref sig .tc := ⟨.vmem, 7, rfl⟩
abbrev cc0_stg11_0 : Ref sig .tc := ⟨.vmem, 8, rfl⟩
abbrev cc0_stg12_0 : Ref sig .tc := ⟨.vmem, 9, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .smem S4x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1152x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2560 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1152x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1152x4096 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1152x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1152x2560 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1152x2560 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1152x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== HcIn.lean ====
abbrev S4 : Shape := ⟨1, ![4]⟩
abbrev S4x1152x2560 : Shape := ⟨3, ![4, 1152, 2560]⟩
abbrev S2560 : Shape := ⟨1, ![2560]⟩
abbrev S1x2560 : Shape := ⟨2, ![1, 2560]⟩
abbrev S1152x2560 : Shape := ⟨2, ![1152, 2560]⟩
abbrev S1152x1 : Shape := ⟨2, ![1152, 1]⟩
abbrev S4x128x2560 : Shape := ⟨3, ![4, 128, 2560]⟩
abbrev S128x2560 : Shape := ⟨2, ![128, 2560]⟩
abbrev S128x1 : Shape := ⟨2, ![128, 1]⟩
abbrev S1x128x2560 : Shape := ⟨3, ![1, 128, 2560]⟩
abbrev S1 : Shape := ⟨1, ![1]⟩
abbrev S128 : Shape := ⟨1, ![128]⟩

abbrev nBuf : Space → Nat
  | .hbm => 6
  | .vmem => 7
  | .smem => 1
  | _ => 0

abbrev bufTy : (tb : Table) → Fin (tcTables nBuf tb) → BufTy
  | .hbm, ⟨0, _⟩ => ⟨S4, .f32⟩
  | .hbm, ⟨1, _⟩ => ⟨S4x1152x2560, .bf16⟩
  | .hbm, ⟨2, _⟩ => ⟨S2560, .f32⟩
  | .hbm, ⟨3, _⟩ => ⟨S1x2560, .f32⟩
  | .hbm, ⟨4, _⟩ => ⟨S1152x2560, .fp8e4m3⟩
  | .hbm, ⟨5, _⟩ => ⟨S1152x1, .f32⟩
  | .local _ .vmem, ⟨0, _⟩ => ⟨S4x128x2560, .bf16⟩
  | .local _ .vmem, ⟨1, _⟩ => ⟨S4x128x2560, .bf16⟩
  | .local _ .vmem, ⟨2, _⟩ => ⟨S1x2560, .f32⟩
  | .local _ .vmem, ⟨3, _⟩ => ⟨S128x2560, .fp8e4m3⟩
  | .local _ .vmem, ⟨4, _⟩ => ⟨S128x2560, .fp8e4m3⟩
  | .local _ .vmem, ⟨5, _⟩ => ⟨S128x1, .f32⟩
  | .local _ .vmem, ⟨6, _⟩ => ⟨S128x1, .f32⟩
  | .local _ .smem, ⟨0, _⟩ => ⟨S4, .f32⟩
  | _, _ => ⟨S4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![9], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x128x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2560 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== HcInRefIdeal.lean ====
abbrev S4 : Shape := ⟨1, ![4]⟩
abbrev S4x1152x2560 : Shape := ⟨3, ![4, 1152, 2560]⟩
abbrev S2560 : Shape := ⟨1, ![2560]⟩
abbrev S1152x2560 : Shape := ⟨2, ![1152, 2560]⟩
abbrev S_ : Shape := ⟨0, ![]⟩
abbrev S1152 : Shape := ⟨1, ![1152]⟩
abbrev S1152x1 : Shape := ⟨2, ![1152, 1]⟩
abbrev S1x2560 : Shape := ⟨2, ![1, 2560]⟩
abbrev S1x254 : Shape := ⟨2, ![1, 254]⟩
abbrev S1152x254 : Shape := ⟨2, ![1152, 254]⟩

abbrev nBuf : Space → Nat
  | .hbm => 55
  | .vmem => 3
  | .smem => 0
  | _ => 0

abbrev bufTy : (tb : Table) → Fin (tcTables nBuf tb) → BufTy
  | .hbm, ⟨0, _⟩ => ⟨S4, .f32⟩
  | .hbm, ⟨1, _⟩ => ⟨S4x1152x2560, .bf16⟩
  | .hbm, ⟨2, _⟩ => ⟨S2560, .f32⟩
  | .hbm, ⟨3, _⟩ => ⟨S4x1152x2560, .f32⟩
  | .hbm, ⟨4, _⟩ => ⟨S1152x2560, .f32⟩
  | .hbm, ⟨5, _⟩ => ⟨S1152x2560, .f32⟩
  | .hbm, ⟨6, _⟩ => ⟨S_, .f32⟩
  | .hbm, ⟨7, _⟩ => ⟨S1152, .f32⟩
  | .hbm, ⟨8, _⟩ => ⟨S1152x1, .f32⟩
  | .hbm, ⟨9, _⟩ => ⟨S_, .f32⟩
  | .hbm, ⟨10, _⟩ => ⟨S1152x1, .f32⟩
  | .hbm, ⟨11, _⟩ => ⟨S1152x1, .f32⟩
  | .hbm, ⟨12, _⟩ => ⟨S_, .f32⟩
  | .hbm, ⟨13, _⟩ => ⟨S1152x1, .f32⟩
  | .hbm, ⟨14, _⟩ => ⟨S1152x1, .f32⟩
  | .hbm, ⟨15, _⟩ => ⟨S1152x1, .f32⟩
  | .hbm, ⟨16, _⟩ => ⟨S1152x2560, .f32⟩
  | .hbm, ⟨17, _⟩ => ⟨S1152x2560, .f32⟩
  | .hbm, ⟨18, _⟩ => ⟨S1x2560, .f32⟩
  | .hbm, ⟨19, _⟩ => ⟨S1152x2560, .f32⟩
  | .hbm, ⟨20, _⟩ => ⟨S1152x2560, .f32⟩
  | .hbm, ⟨21, _⟩ => ⟨S1152x2560, .f32⟩
  | .hbm, ⟨22, _⟩ => ⟨S_, .f32⟩
  | .hbm, ⟨23, _⟩ => ⟨S1152, .f32⟩
  | .hbm, ⟨24, _⟩ => ⟨S1152x1, .f32⟩
  | .hbm, ⟨25, _⟩ => ⟨S_, .f32⟩
  | .hbm, ⟨26, _⟩ => ⟨S1152x1, .f32⟩
  | .hbm, ⟨27, _⟩ => ⟨S1152x1, .f32⟩
  | .hbm, ⟨28, _⟩ => ⟨S1x254, .i32⟩
  | .hbm, ⟨29, _⟩ => ⟨S_, .i32⟩
  | .hbm, ⟨30, _⟩ => ⟨S1x254, .i32⟩
  | .hbm, ⟨31, _⟩ => ⟨S1x254, .i32⟩
  | .hbm, ⟨32, _⟩ => ⟨S1x254, .f32⟩
  | .hbm, ⟨33, _⟩ => ⟨S_, .f32⟩
  | .hbm, ⟨34, _⟩ => ⟨S1x254, .f32⟩
  | .hbm, ⟨35, _⟩ => ⟨S1x254, .f32⟩
  | .hbm, ⟨36, _⟩ => ⟨S1152x254, .f32⟩
  | .hbm, ⟨37, _⟩ => ⟨S1152x254, .f32⟩
  | .hbm, ⟨38, _⟩ => ⟨S1152x254, .i1⟩
  | .hbm, ⟨39, _⟩ => ⟨S_, .f32⟩
  | .hbm, ⟨40, _⟩ => ⟨S_, .f32⟩
  | .hbm, ⟨41, _⟩ => ⟨S1152x254, .f32⟩
  | .hbm, ⟨42, _⟩ => ⟨S1152x254, .f32⟩
  | .hbm, ⟨43, _⟩ => ⟨S1152x254, .f32⟩
  | .hbm, ⟨44, _⟩ => ⟨S_, .f32⟩
  | .hbm, ⟨45, _⟩ => ⟨S1152, .f32⟩
  | .hbm, ⟨46, _⟩ => ⟨S1152x1, .f32⟩
  | .hbm, ⟨47, _⟩ => ⟨S_, .f32⟩
  | .hbm, ⟨48, _⟩ => ⟨S1152x1, .f32⟩
  | .hbm, ⟨49, _⟩ => ⟨S1152x1, .i1⟩
  | .hbm, ⟨50, _⟩ => ⟨S_, .f32⟩
  | .hbm, ⟨51, _⟩ => ⟨S_, .f32⟩
  | .hbm, ⟨52, _⟩ => ⟨S1152x1, .f32⟩
  | .hbm, ⟨53, _⟩ => ⟨S1152x1, .f32⟩
  | .hbm, ⟨54, _⟩ => ⟨S1152x2560, .fp8e4m3⟩
  | .local _ .vmem, ⟨0, _⟩ => ⟨S1152x2560, .f32⟩
  | .local _ .vmem, ⟨1, _⟩ => ⟨S1152x1, .f32⟩
  | .local _ .vmem, ⟨2, _⟩ => ⟨S1152x2560, .fp8e4m3⟩
  | _, _ => ⟨S4, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_call1_v0 : Ref sig .tc := ⟨.hbm, 51, rfl⟩
abbrev main_call1_v1 : Ref sig .tc := ⟨.hbm, 52, rfl⟩
abbrev main_v34 : Ref sig .tc := ⟨.hbm, 53, rfl⟩
abbrev main_v35 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1152x2560 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1152x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1152x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.GateUpHid.lean ====
module

public import proofs.«01_k».proof.Proof.Gen.GateUpIdeal.Frame
public import proofs.«01_k».proof.Proof.Gen.GateUpIdeal.Value
public import proofs.«01_k».proof.Proof.Gen.GateUpRefIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GateUpHid

/-- One fp8 product with its scales: the exact inner product of the code row `r` with the weight column `l`, times the
    product of the row's scale and the column's scale. -/
def prod (C : FVec Ideal ⟨2, ![1152, 2560]⟩ .fp8e4m3) (S : FVec Ideal ⟨2, ![1152, 1]⟩ .f32)
    (W : FVec Ideal ⟨2, ![2560, 9728]⟩ .fp8e4m3) (T : FVec Ideal ⟨1, ![9728]⟩ .f32) (r : Fin 1152) (l : Fin 9728) : EReal :=
  (∑ k : Fin 2560, C (ix2 r k) * W (ix2 k l)) * (S (ix2 r 0) * T (ix1 l))

/-- The hidden layer: SiLU of the gate product times the up product. -/
def hid (C : FVec Ideal ⟨2, ![1152, 2560]⟩ .fp8e4m3) (S : FVec Ideal ⟨2, ![1152, 1]⟩ .f32)
    (Wg Wu : FVec Ideal ⟨2, ![2560, 9728]⟩ .fp8e4m3) (Tg Tu : FVec Ideal ⟨1, ![9728]⟩ .f32) :
    FVec Ideal ⟨2, ![1152, 9728]⟩ .f32 := fun j =>
  prod C S Wg Tg (j 0) (j 1) * Ideal.logistic (prod C S Wg Tg (j 0) (j 1)) * prod C S Wu Tu (j 0) (j 1)

section Kernel
open Cert.GateUpIdeal Cert.GateUpIdeal.Gen
variable (m : (ℓ : Loc nD τ sig) → Buf (Elt Ideal) ℓ)

/-- The block each window stages at each grid point, decided over the grid. -/
theorem idx : ∀ t : Fin cfg0.N, win0_0.index t = ![0, 0] ∧ win0_1.index t = ![0, 0] ∧ win0_2.index t = ![0, t.val]
    ∧ win0_3.index t = ![0, t.val] ∧ win0_4.index t = ![0, t.val] ∧ win0_5.index t = ![0, t.val]
    ∧ win0_6.index t = ![0, t.val] ∧ win0_7.index t = ![0, 0] :=
  (by decide +kernel : ∀ t : Fin grid0.N, _)

/-- What the body stores in the hidden block at one grid point is the hidden layer at that block's place. -/
theorem point (c : Dev nD) (t : Fin cfg0.N) (y) :
    k0_pay1 (F := Ideal) (iblk m c 0 t) (iblk m c 1 t) (iblk m c 2 t) (iblk m c 4 t) (iblk m c 3 t) (iblk m c 5 t) y
    = hid (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (((cfg0.win 6).blk t).view.emb y) := by
  pointwise [k0_pay1, hid, prod]
  blk_point [iblk, V, idx t]

/-- The hidden layer's array after the run. -/
theorem final6 (c : Dev nD) : (dats m 0 c).arrAt 6 (cfgs 0).N
    = hid (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  by_cases h : t.val % 19 = 0
  · rw [outsAt0_A m c t h]; frame_out
    exact point m c t y
  · rw [outsAt0_B m c t h]; frame_out
    exact point m c t y

end Kernel

section Reference
open Cert.GateUpRefIdeal Cert.GateUpRefIdeal.Gen
variable (m : (ℓ : Loc nD τ sig) → Buf (Elt Ideal) ℓ)

/-- The reference's one point stages whole arrays. -/
theorem idxR : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- The region finds the gate scales as a row. -/
theorem V0_v0 (c : Dev nD) (l : Fin 9728) : (show EReal from V m c main_v0 (ix2 (0 : Fin 1) l)) = m ((c : Thread nD τ).loc main_arg4) (ix1 l) := by
  have h : V m c main_v0 = StableHlo.after hostOps0 (fun b => m (c, b)) (Proc.devRef .tc main_v0) := rfl
  rw [h]
  after_results
  pointwise

/-- The region finds the up scales as a row. -/
theorem V0_v1 (c : Dev nD) (l : Fin 9728) : (show EReal from V m c main_v1 (ix2 (0 : Fin 1) l)) = m ((c : Thread nD τ).loc main_arg5) (ix1 l) := by
  have h : V m c main_v1 = StableHlo.after hostOps0 (fun b => m (c, b)) (Proc.devRef .tc main_v1) := rfl
  rw [h]
  after_results
  pointwise

/-- The reference's hidden array after its run. -/
theorem finalR (c : Dev nD) : (dats m 0 c).arrAt 6 (cfgs 0).N
    = hid (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_after_last 6 t0_0 (by decide +kernel) _ fun j => ?_
  blk_simp
  rw [after0_6]; frame_out
  pointwise [k0_pay1, hid, prod]
  blk_point [iblk, idxR t0_0]
  · refine Eq.trans ?_ (V0_v0 m c (j 1))
    blk_ext [idxR t0_0]
  · refine Eq.trans ?_ (V0_v1 m c (j 1))
    blk_ext [idxR t0_0]

end Reference

end Cert.GateUpHid

end
-- ==== Proof.GateUpAmax.lean ====
module

public import proofs.«01_k».proof.Proof.GateUpHid

@[expose] public section

set_option maxRecDepth 16384

noncomputable section

open Idealize.ShloMosaic Idealize.ShloMosaic.TcCoe Idealize.SL.Sem
open Idealize.ShloMosaic.Pipeline (Dat)

namespace Cert.GateUpHid

/-- The magnitude of the hidden layer at row `r`, column `l` of the `k`-th group of 128 columns. -/
def mag (h : FVec Ideal ⟨2, ![1152, 9728]⟩ .f32) (r : Fin 1152) (l : Fin 128) (k : Fin 76) : EReal :=
  max (h (ix2 r ⟨k * 128 + l, by omega⟩)) (-h (ix2 r ⟨k * 128 + l, by omega⟩))

/-- A magnitude is not negative. -/
theorem mag_nonneg (h r l k) : 0 ≤ mag h r l k := by
  unfold mag
  rcases le_total 0 (show EReal from h (ix2 r ⟨k * 128 + l, by omega⟩)) with h0 | h0
  · exact le_max_of_le_left h0
  · exact le_max_of_le_right (EReal.neg_nonneg.mpr h0)

/-- The largest magnitude of the hidden layer over the 76 columns `l`, `l + 128`, …. -/
def amax (h : FVec Ideal ⟨2, ![1152, 9728]⟩ .f32) : FVec Ideal ⟨2, ![1152, 128]⟩ .f32 := fun j =>
  Finset.univ.fold max (⊥ : EReal) fun k : Fin 76 => mag h (j 0) (j 1) k

/-- What it is for a bound to lie above that maximum. -/
theorem amax_le (h) (r : Fin 1152) (l : Fin 128) (b : EReal) :
    (show EReal from amax h (ix2 r l)) ≤ b ↔ 0 ≤ b ∧ ∀ k : Fin 76, mag h r l k ≤ b := by
  show Finset.univ.fold max (⊥ : EReal) (fun k : Fin 76 => mag h r l k) ≤ b ↔ _
  rw [Finset.fold_max_le]
  constructor
  · rintro ⟨-, hk⟩
    exact ⟨(mag_nonneg h r l 0).trans (hk 0 (Finset.mem_univ _)), fun k => hk k (Finset.mem_univ _)⟩
  · rintro ⟨-, hk⟩
    exact ⟨bot_le, fun k _ => hk k⟩

section Kernel
open Cert.GateUpIdeal Cert.GateUpIdeal.Gen
variable (m : (ℓ : Loc nD τ sig) → Buf (Elt Ideal) ℓ)

/-- The hidden layer of the kernel's own arguments. -/
abbrev H (c : Dev nD) : FVec Ideal ⟨2, ![1152, 9728]⟩ .f32 :=
  hid (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))

/-- A block column is the hidden layer's column. -/
theorem point_at (c : Dev nD) (t : Fin cfg0.N) (r : Fin 1152) (q : Fin 512) (l : Fin 9728) (hl : (l : ℕ) = t.val * 512 + q) :
    k0_pay1 (F := Ideal) (iblk m c 0 t) (iblk m c 1 t) (iblk m c 2 t) (iblk m c 4 t) (iblk m c 3 t) (iblk m c 5 t) (ix2 r q)
    = H m c (ix2 r l) := by
  rw [point m c t (ix2 r q)]
  blk_ext [idx t, hl]

/-- One grid point's maximum: below a bound exactly when the carried maximum and the four column groups of the point's
    block are. -/
theorem step (c : Dev nD) (t : Fin cfg0.N) (acc : Vec Ideal S1152x128 .f32) (r : Fin 1152) (l : Fin 128) (b : EReal) :
    k0_pay3 (F := Ideal) (iblk m c 0 t) (iblk m c 1 t) (iblk m c 2 t) (iblk m c 4 t) (iblk m c 3 t) (iblk m c 5 t) acc (ix2 r l) ≤ b
    ↔ (show EReal from acc (ix2 r l)) ≤ b ∧ ∀ k : Fin 76, (k : ℕ) / 4 = t.val → mag (H m c) r l k ≤ b := by
  have ht : t.val < 19 := lt_of_lt_of_eq t.isLt N_0
  have hb := point_at m c t
  unfold k0_pay3
  generalize k0_pay1 (F := Ideal) (iblk m c 0 t) (iblk m c 1 t) (iblk m c 2 t) (iblk m c 4 t) (iblk m c 3 t) (iblk m c 5 t) = P at hb
  pointwise
  have h4 : ∀ (s : ℕ) (hs : s < 4), FloatOps.absf (P (ix2 r ⟨s * 128 + l, by omega⟩))
      = mag (H m c) r l ⟨t.val * 4 + s, by omega⟩ := by
    intro s hs
    rw [hb r ⟨s * 128 + l, by omega⟩ ⟨(t.val * 4 + s) * 128 + l, by omega⟩ (by simp only []; omega)]
    rfl
  have h0 := h4 0 (by omega); have h1 := h4 1 (by omega); have h2 := h4 2 (by omega); have h3 := h4 3 (by omega)
  simp only [Nat.zero_mul, Nat.zero_add, Nat.one_mul, Nat.reduceMul] at h0 h1 h2 h3
  rw [h0, h1, h2, h3]
  simp only [max_le_iff]
  constructor
  · rintro ⟨ha, ⟨⟨g0, g1⟩, g2⟩, g3⟩
    refine ⟨ha, fun k hk => ?_⟩
    have hc : (k : ℕ) = t.val * 4 + 0 ∨ (k : ℕ) = t.val * 4 + 1 ∨ (k : ℕ) = t.val * 4 + 2 ∨ (k : ℕ) = t.val * 4 + 3 := by omega
    rcases hc with hc | hc | hc | hc
    · exact (show k = ⟨t.val * 4 + 0, by omega⟩ from Fin.ext hc) ▸ g0
    · exact (show k = ⟨t.val * 4 + 1, by omega⟩ from Fin.ext hc) ▸ g1
    · exact (show k = ⟨t.val * 4 + 2, by omega⟩ from Fin.ext hc) ▸ g2
    · exact (show k = ⟨t.val * 4 + 3, by omega⟩ from Fin.ext hc) ▸ g3
  · rintro ⟨ha, hk⟩
    exact ⟨ha, ⟨⟨hk _ (by simp only []; omega), hk _ (by simp only []; omega)⟩, hk _ (by simp only []; omega)⟩, hk _ (by simp only []; omega)⟩

/-- The running maximum after point `n`: below a bound exactly when zero and the columns of the points so far are. -/
theorem out7 (c : Dev nD) (r : Fin 1152) (l : Fin 128) (b : EReal) : ∀ (n : ℕ) (hn : n < cfg0.N),
    (show EReal from (outsAt0 m c n hn).2 (ix2 r l)) ≤ b ↔ 0 ≤ b ∧ ∀ k : Fin 76, (k : ℕ) / 4 ≤ n → mag (H m c) r l k ≤ b := by
  intro n
  induction n with
  | zero =>
    intro hn
    rw [outsAt0_A m c ⟨0, hn⟩ rfl]; frame_out
    rw [step m c ⟨0, hn⟩]
    refine and_congr ?_ (forall_congr' fun k => imp_congr ?_ Iff.rfl)
    · pointwise [k0_pay2]
    · simp only []; omega
  | succ n ih =>
    intro hn
    have hN : n + 1 < 19 := lt_of_lt_of_eq hn N_0
    have h : ¬ (n + 1) % 19 = 0 := by omega
    rw [outsAt0_B m c ⟨n + 1, hn⟩ h]; frame_out
    rw [step m c ⟨n + 1, hn⟩]
    refine (and_congr (ih (Nat.lt_of_succ_lt hn)) Iff.rfl).trans ?_
    constructor
    · rintro ⟨⟨h0, h1⟩, h2⟩
      refine ⟨h0, fun k hk => ?_⟩
      rcases Nat.lt_or_ge ((k : ℕ) / 4) (n + 1) with hlt | hge
      · exact h1 k (by omega)
      · exact h2 k (by simp only []; omega)
    · rintro ⟨h0, h1⟩
      exact ⟨⟨h0, fun k hk => h1 k (by omega)⟩, fun k hk => h1 k (le_of_eq hk)⟩

/-- The row maxima's array after the run. -/
theorem final7 (c : Dev nD) : (dats m 0 c).arrAt 7 (cfgs 0).N = amax (H m c) := by
  refine (dats m 0 c).arrAt_eq_of_covers 7 _ (by decide +kernel) fun t hf y => ?_
  blk_simp
  rw [after0_7]
  have ht : t.val = 18 := by
    have h := (flush0_7 t).mp hf
    have hN : t.val < 19 := lt_of_lt_of_eq t.isLt N_0
    omega
  have he : ((cfg0.win 7).blk t).view.emb y = ix2 (y 0) (y 1) := by blk_ext [idx t]
  rw [he]
  show (show EReal from (outsAt0 m c t.val t.isLt).2 y) = (show EReal from amax (H m c) (ix2 (y 0) (y 1)))
  refine eq_of_forall_ge_iff fun b => ?_
  have hy : (show EReal from (outsAt0 m c t.val t.isLt).2 y) = (show EReal from (outsAt0 m c t.val t.isLt).2 (ix2 (y 0) (y 1))) :=
    congrArg _ (eq_ix2 y)
  rw [hy]
  refine (out7 m c _ _ b t.val t.isLt).trans ?_
  refine Iff.trans ?_ (amax_le (H m c) (y 0) (y 1) b).symm
  exact and_congr Iff.rfl (forall_congr' fun k => ⟨fun h => h (by omega), fun h _ => h⟩)

end Kernel

section Reference
open Cert.GateUpRefIdeal Cert.GateUpRefIdeal.Gen
variable (m : (ℓ : Loc nD τ sig) → Buf (Elt Ideal) ℓ) (g : Dev nD → PrngReg)

/-- The reference's maxima after its run. -/
theorem tailR (c : Dev nD) : Pipeline.afterTail₀ cfgs (dats m) 0 (V0 m) [hostOps1] c main_v5 = amax (hid (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  have h : Pipeline.afterTail₀ cfgs (dats m) 0 (V0 m) [hostOps1] c main_v5
    = StableHlo.after hostOps1 (Pipeline.withArrays (cfgs 0).spec c (V0 m c) fun w => (dats m 0 c).arrAt w (cfgs 0).N) (Proc.devRef .tc main_v5) := rfl
  rw [h]
  have h2 : (Pipeline.withArrays (cfgs 0).spec c (V0 m c) fun w => (dats m 0 c).arrAt w (cfgs 0).N) (Proc.devRef .tc main_v2)
    = (dats m 0 c).arrAt 6 (cfgs 0).N := Pipeline.withArrays_arr (cfgs 0).spec launch0.win.arr_inj c _ _ 6
  generalize (Pipeline.withArrays (cfgs 0).spec c (V0 m c) fun w => (dats m 0 c).arrAt w (cfgs 0).N) = W at h2
  after_results
  rw [h2, finalR m c]
  generalize (hid (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) = X
  funext j
  idx_vars j
  pointwise [amax, mag]
  rfl

end Reference

end Cert.GateUpHid

end
-- ==== Proof.GateUpClaim.lean ====
module

public import proofs.«01_k».proof.Defs
public import proofs.«01_k».proof.Proof.Gen.GateUpIdeal
public import proofs.«01_k».proof.Proof.Gen.GateUpRefIdeal
public import proofs.«01_k».proof.Proof.GateUpAmax

@[expose] public section

set_option maxRecDepth 16384

noncomputable section

open Idealize.ShloMosaic Idealize.ShloMosaic.TcCoe Idealize.SL.Sem

namespace Cert.GateUpHid

/-- Over the reals the tiled gate/up kernel returns what the plain reference returns: the hidden layer, and for every row
    and lane the largest magnitude over that lane's columns. -/
theorem algebraic : Cert.algebraic_GateUpIdeal_GateUpRefIdeal (hGateUpIdeal := Cert.GateUpIdeal.Gen.facts)
    (hGateUpRefIdeal := Cert.GateUpRefIdeal.Gen.facts) := by
  pair_intro
  · run_from Cert.GateUpIdeal.Gen.run_main m g
  · run_from Cert.GateUpRefIdeal.Gen.run_main m' g' & Cert.GateUpRefIdeal.Gen.unchanged m' g'
    · rw [finalR, final6]
      obtain ⟨h0, h1, h2, h3, h4, h5⟩ := hagree c
      rw [h0, h1, h2, h3, h4, h5]
    · rw [tailR, final7]
      obtain ⟨h0, h1, h2, h3, h4, h5⟩ := hagree c
      rw [h0, h1, h2, h3, h4, h5]

end Cert.GateUpHid

end
-- ==== Proof.Quant.lean ====
/- The power-of-two quantiser of `reference.py` over the extended reals: the scale that the kernel builds from an exponent
   field found by comparisons is the least power of two above its argument, and the kernel's second pattern is its inverse. -/
module

public import Idealize.ShloMosaic.PureOps.Ideal
public import Idealize.ShloMosaic.Lib.Pointwise

@[expose] public section

set_option maxRecDepth 16384

noncomputable section

open Idealize.ShloMosaic

namespace Cert.Quant

/-- The power of two with exponent `e`, as an extended real. -/
def two (e : ℤ) : EReal := (((2 : ℝ) ^ e : ℝ) : EReal)

theorem two_le {a b : ℤ} : two a ≤ two b ↔ a ≤ b := by
  rw [two, two, EReal.coe_le_coe_iff, zpow_le_zpow_iff_right₀ (by norm_num)]

theorem two_lt {a b : ℤ} : two a < two b ↔ a < b := by
  rw [two, two, EReal.coe_lt_coe_iff, zpow_lt_zpow_iff_right₀ (by norm_num)]

theorem two_ne_zero (e : ℤ) : two e ≠ 0 := by
  rw [two, Ne, EReal.coe_eq_zero]; positivity

theorem two_zero : two 0 = 1 := by simp [two]

/-- Dividing by a power of two is multiplying by the opposite power. -/
theorem div_two (v : EReal) (e : ℤ) : Ideal.div v (two e) = v * two (-e) := by
  rw [Ideal.div, if_neg (two_ne_zero e), two, two, zpow_neg, EReal.coe_inv]

/-- What the float pattern with exponent field `n`, and nothing else, denotes. -/
def val (n : ℕ) : EReal := if n = 0 then 0 else if n = 255 then ⊤ else two (n - 127)

theorem bits_fields : ∀ n : Fin 256, ((BitVec.ofNat 32 n.val <<< 23).extractLsb' 31 1 == 1#1) = false
    ∧ ((BitVec.ofNat 32 n.val <<< 23).extractLsb' 23 8).toNat = n.val
    ∧ ((BitVec.ofNat 32 n.val <<< 23).extractLsb' 0 23).toNat = 0 := by decide +kernel

/-- The pattern `n <<< 23` read as a float is `val n`. -/
theorem ofBits_shl (n : ℕ) (h : n ≤ 255) : Ideal.ofBits .f32 (BitVec.ofNat 32 n <<< 23) = val n := by
  obtain ⟨h1, h2, h3⟩ := bits_fields ⟨n, by omega⟩
  simp only [Ideal.ofBits, Ideal.ieee, h1, h2, h3, val]
  by_cases h0 : n = 0
  · subst h0; simp
  · by_cases h5 : n = 255
    · subst h5; simp
    · have h : ¬ n = 2 ^ 8 - 1 := by simpa using h5
      rw [if_neg h, if_neg h0, if_neg h0, if_neg h5, two]
      have e : ((n : ℤ) - 127) = ((23 : ℕ) : ℤ) + ((n : ℤ) - (2 ^ (8 - 1) - 1) - ((23 : ℕ) : ℤ)) := by norm_num
      rw [e, zpow_add₀ (by norm_num), zpow_natCast]
      simp only [Bool.false_eq_true, if_false, one_mul, add_zero, Nat.cast_pow, Nat.cast_ofNat]

theorem val_mid {n : ℕ} (h0 : n ≠ 0) (h : n ≤ 254) : val n = two (n - 127) := by
  rw [val, if_neg h0, if_neg (by omega)]

/-- One comparison of the search for the exponent field. -/
def step {s : Shape} (k : BitVec 32) (x : FVec Ideal s .f32) (f : IVec s 32) : IVec s 32 :=
  select (cmpf .oge x (bitcastToFloat .f32 (shli (addi f (broadcast s k)) (broadcast s 23#32)))) (addi f (broadcast s k)) f

/-- The exponent field of every element of `x`, as the kernel finds it. -/
def field {s : Shape} (x : FVec Ideal s .f32) : IVec s 32 :=
  step 1#32 x (step 2#32 x (step 4#32 x (step 8#32 x (step 16#32 x (step 32#32 x (step 64#32 x (step 128#32 x
    (broadcast s 0#32))))))))

/-- The kernel's scale, from the exponent field. -/
def scaleV {s : Shape} (x : FVec Ideal s .f32) : FVec Ideal s .f32 :=
  bitcastToFloat .f32 (shli (select (cmpi .eq (field x) (broadcast s 0#32)) (broadcast s 127#32)
    (addi (field x) (broadcast s 1#32))) (broadcast s 23#32))

/-- The kernel's inverse of the scale. -/
def invV {s : Shape} (x : FVec Ideal s .f32) : FVec Ideal s .f32 :=
  bitcastToFloat .f32 (shli (select (cmpi .eq (field x) (broadcast s 0#32)) (broadcast s 127#32)
    (subi (broadcast s 253#32) (field x))) (broadcast s 23#32))

/-- The scale of the reference: the least of the powers of two `2⁻¹²⁶ … 2¹²⁷` above `x`, and `1` for `x` below `2⁻¹²⁶`. -/
def scale (x : EReal) : EReal :=
  if x < two (-126) then 1
  else (Finset.univ : Finset (Fin 254)).fold min ⊤ fun k => if x < two (k.val - 126) then two (k.val - 126) else ⊤

/-- Where the search stands: the field is `n`, and what is still to find is less than `w`. -/
def At (x : EReal) (w n : ℕ) : Prop :=
  n + w ≤ 256 ∧ (n = 0 ∨ val n ≤ x) ∧ (n + w = 256 ∨ x < val (n + w))

theorem step_apply {s : Shape} (k : ℕ) (x : FVec Ideal s .f32) (f : IVec s 32) (j : s.Idx) (n : ℕ)
    (hf : f j = BitVec.ofNat 32 n) (hk : n + k ≤ 255) :
    step (BitVec.ofNat 32 k) x f j = if val (n + k) ≤ x j then BitVec.ofNat 32 (n + k) else BitVec.ofNat 32 n := by
  pointwise [step]
  rw [hf, show IntOp.addi (BitVec.ofNat 32 n) (BitVec.ofNat 32 k) = BitVec.ofNat 32 (n + k) from (BitVec.ofNat_add ..).symm]
  have : IntOp.shli .vector (BitVec.ofNat 32 (n + k)) 23#32 = BitVec.ofNat 32 (n + k) <<< 23 := by
    rw [IntOp.shli, if_pos (by decide)]; rfl
  rw [this, ofBits_shl _ hk]

theorem step_at {s : Shape} (k : ℕ) (hk : 0 < k) (x : FVec Ideal s .f32) (f : IVec s 32) (j : s.Idx)
    (h : ∃ n, f j = BitVec.ofNat 32 n ∧ At (x j) (k + k) n) :
    ∃ n, step (BitVec.ofNat 32 k) x f j = BitVec.ofNat 32 n ∧ At (x j) k n := by
  obtain ⟨n, hf, h1, h2, h3⟩ := h
  rw [step_apply k x f j n hf (by omega)]
  by_cases hv : val (n + k) ≤ x j
  · exact ⟨n + k, by rw [if_pos hv], by omega, .inr hv, by rwa [add_assoc]⟩
  · exact ⟨n, by rw [if_neg hv], by omega, h2, .inr (not_le.mp hv)⟩

/-- The search ends at the field of `x`. -/
theorem field_at {s : Shape} (x : FVec Ideal s .f32) (j : s.Idx) :
    ∃ n, field x j = BitVec.ofNat 32 n ∧ At (x j) 1 n :=
  step_at 1 (by decide) x _ j (step_at 2 (by decide) x _ j (step_at 4 (by decide) x _ j (step_at 8 (by decide) x _ j
    (step_at 16 (by decide) x _ j (step_at 32 (by decide) x _ j (step_at 64 (by decide) x _ j (step_at 128 (by decide) x _ j
      ⟨0, rfl, by decide, .inl rfl, .inl rfl⟩)))))))

/-- For `x` below `2¹²⁶` the field is at most 252 and brackets `x`. -/
theorem field_lt {s : Shape} (x : FVec Ideal s .f32) (j : s.Idx) (hx : x j < two 126) :
    ∃ n, field x j = BitVec.ofNat 32 n ∧ n ≤ 252 ∧ (n = 0 ∨ val n ≤ x j) ∧ x j < val (n + 1) := by
  obtain ⟨n, hf, h1, h2, h3⟩ := field_at x j
  have hn : n ≤ 252 := by
    by_contra hc
    have hv : val n ≤ x j := by rcases h2 with h | h <;> [omega; exact h]
    have : two 126 ≤ val n := by
      rw [val, if_neg (by omega)]
      split
      · exact le_top
      · exact two_le.mpr (by omega)
    exact absurd (lt_of_le_of_lt (this.trans hv) hx) (lt_irrefl _)
  exact ⟨n, hf, hn, h2, by rcases h3 with h | h <;> [omega; exact h]⟩

/-- The scale of `x` with field `n`. -/
theorem scale_eq {x : EReal} {n : ℕ} (hn : n ≤ 252) (h2 : n = 0 ∨ val n ≤ x) (h3 : x < val (n + 1)) :
    scale x = if n = 0 then 1 else two (n - 126) := by
  rw [val_mid (by omega) (by omega)] at h3
  by_cases h0 : n = 0
  · subst h0
    rw [scale, if_pos (by simpa using h3), if_pos rfl]
  · rw [val_mid h0 (by omega)] at h2
    have hv : two (n - 127) ≤ x := by rcases h2 with h | h <;> [omega; exact h]
    have h3' : x < two (n - 126) := by
      have : (((n + 1 : ℕ) : ℤ) - 127) = n - 126 := by push_cast; ring
      rwa [this] at h3
    rw [if_neg h0, scale, if_neg (not_lt.mpr (le_trans (two_le.mpr (by omega)) hv))]
    refine le_antisymm ?_ ?_
    · refine (Finset.fold_min_le _).mpr (.inr ⟨⟨n, by omega⟩, Finset.mem_univ _, ?_⟩)
      rw [if_pos h3']
    · refine (Finset.le_fold_min _).mpr ⟨le_top, fun k _ => ?_⟩
      split
      · next h => exact two_le.mpr (by have := two_lt.mp (lt_of_le_of_lt hv h); omega)
      · exact le_top

theorem shl_val (n : ℕ) (h : n ≤ 255) : Ideal.ofBits .f32 (IntOp.shli .vector (BitVec.ofNat 32 n) 23#32) = val n := by
  rw [IntOp.shli, if_pos (by decide)]
  exact ofBits_shl n h

theorem ofNat_ne {n : ℕ} (h0 : n ≠ 0) (h : n ≤ 252) : ¬ BitVec.ofNat 32 n = 0#32 := fun e => h0 (by
  have := congrArg BitVec.toNat e
  simpa [Nat.mod_eq_of_lt (show n < 4294967296 by omega)] using this)

theorem select_zero {n : ℕ} (h : n ≤ 252) (a b : BitVec 32) :
    Scalar.select (IntOp.cmpi .eq (BitVec.ofNat 32 n) 0#32) a b = if n = 0 then a else b := by
  by_cases h0 : n = 0
  · subst h0; rfl
  · have := ofNat_ne h0 h
    rw [if_neg h0]
    have hb : (BitVec.ofNat 32 n == 0#32) = false := beq_eq_false_iff_ne.mpr this
    simp [Scalar.select, IntOp.cmpi, hb]

theorem sub_ofNat {n : ℕ} (h : n ≤ 252) : 253#32 - BitVec.ofNat 32 n = BitVec.ofNat 32 (253 - n) := by
  apply BitVec.eq_of_toNat_eq
  simp only [BitVec.toNat_sub, BitVec.toNat_ofNat]
  omega

/-- The kernel's scale is the least power of two above `x`. -/
theorem scaleV_apply {s : Shape} (x : FVec Ideal s .f32) (j : s.Idx) (hx : x j < two 126) : scaleV x j = scale (x j) := by
  obtain ⟨n, hf, hn, h2, h3⟩ := field_lt x j hx
  rw [scale_eq hn h2 h3]
  pointwise [scaleV]
  rw [hf]
  by_cases h0 : n = 0
  · subst h0
    rw [select_zero hn, if_pos rfl, if_pos rfl]
    exact (shl_val 127 (by decide)).trans (by rw [val_mid (by decide) (by decide)]; exact two_zero)
  · rw [select_zero hn, if_neg h0, if_neg h0, show IntOp.addi (BitVec.ofNat 32 n) 1#32 = BitVec.ofNat 32 (n + 1) from
      (BitVec.ofNat_add ..).symm, shl_val _ (by omega), val_mid (by omega) (by omega)]
    congr 1; push_cast; ring

/-- Multiplying by the kernel's inverse is dividing by the scale. -/
theorem mul_invV {s : Shape} (x : FVec Ideal s .f32) (j : s.Idx) (hx : x j < two 126) (v : EReal) :
    v * invV x j = Ideal.div v (scale (x j)) := by
  obtain ⟨n, hf, hn, h2, h3⟩ := field_lt x j hx
  rw [scale_eq hn h2 h3]
  pointwise [invV]
  rw [hf]
  by_cases h0 : n = 0
  · subst h0
    rw [select_zero hn, if_pos rfl, if_pos rfl, ← two_zero, div_two]
    exact congrArg (v * ·) ((shl_val 127 (by decide)).trans (by rw [val_mid (by decide) (by decide)]; rfl))
  · rw [select_zero hn, if_neg h0, if_neg h0, show IntOp.subi 253#32 (BitVec.ofNat 32 n) = BitVec.ofNat 32 (253 - n) from
      sub_ofNat hn, shl_val _ (by omega), val_mid (by omega) (by omega), div_two]
    congr 2; omega

/-- The pattern of -∞. -/
theorem ninf : Ideal.ofBits .f32 0xFF800000#32 = ⊥ := by simp [Ideal.ofBits, Ideal.ieee]

/-- The pattern of ∞. -/
theorem pinf : Ideal.ofBits .f32 0x7F800000#32 = ⊤ := by simp [Ideal.ofBits, Ideal.ieee]

/-- The pattern of the least normal number. -/
theorem least : Ideal.ofBits .f32 0x00800000#32 = two (-126) := ofBits_shl 1 (by decide)

/-- The pattern of 1. -/
theorem one : Ideal.ofBits .f32 0x3F800000#32 = 1 := (ofBits_shl 127 (by decide)).trans two_zero

/-- The pattern of 2. -/
theorem base : Ideal.ofBits .f32 0x40000000#32 = ((2 : ℝ) : EReal) :=
  (ofBits_shl 128 (by decide)).trans (by rw [val_mid (by decide) (by decide), two]; norm_num)

/-- The largest finite number. -/
theorem huge : Ideal.ofBits .f32 0x7F7FFFFF#32 = (((2 ^ 24 - 1) * 2 ^ 104 : ℝ) : EReal) := by
  simp [Ideal.ofBits, Ideal.ieee, -EReal.coe_mul]; norm_num

/-- The pattern of 1/448. -/
theorem inv448 : Ideal.ofBits .f32 0x3B124925#32 = ((9586981 * 2⁻¹ ^ 32 : ℝ) : EReal) := by
  simp [Ideal.ofBits, Ideal.ieee, -EReal.coe_mul]

/-- A finite magnitude over 448 is below `2¹²⁶`. -/
theorem small {a : EReal} (h : a ≤ Ideal.ofBits .f32 0x7F7FFFFF#32) : a * Ideal.ofBits .f32 0x3B124925#32 < two 126 := by
  have hc : (0 : EReal) ≤ Ideal.ofBits .f32 0x3B124925#32 := by rw [inv448, EReal.coe_nonneg]; positivity
  refine (mul_le_mul_of_nonneg_right h hc).trans_lt ?_
  rw [huge, inv448, ← EReal.coe_mul, two, EReal.coe_lt_coe_iff]
  norm_num

/-- The reference's table of powers of two. -/
theorem table (k : Fin 254) : Ideal.pow (Ideal.ofBits .f32 0x40000000#32) (((IntOp.subi (BitVec.ofNat 32 k) 126#32).toInt : ℝ) : EReal)
    = two (k.val - 126) := by
  have hk : (IntOp.subi (BitVec.ofNat 32 k) 126#32).toInt = (k.val : ℤ) - 126 := by
    revert k; decide +kernel
  rw [hk, base, Ideal.pow_coe_coe, two]
  exact congrArg _ (Real.rpow_intCast 2 _)

/-- The scale as the reference's lines spell it. -/
theorem scale_of_table (x : EReal) (f : Fin 254 → EReal) (hf : ∀ k, f k = two (k.val - 126)) :
    (if x < two (-126) then 1 else (Finset.univ : Finset (Fin 254)).fold min ⊤ fun k => if x < f k then f k else ⊤) = scale x := by
  simp only [hf, scale]

/-- A finite extended real, from the comparison of its magnitude with the largest finite number. -/
theorem real_of {x : EReal} (h : max x (-x) ≤ Ideal.ofBits .f32 0x7F7FFFFF#32) : ∃ r : ℝ, x = r := by
  rw [huge] at h
  generalize ((2 ^ 24 - 1) * 2 ^ 104 : ℝ) = b at h
  have h1 := (le_max_left _ _).trans h
  have h2 := (le_max_right _ _).trans h
  induction x with
  | bot => simp at h2
  | top => simp at h1
  | coe r => exact ⟨r, rfl⟩

/-- A comparison that is 1 everywhere holds everywhere. -/
theorem le_of_ones {s : Shape} {x y : FVec Ideal s .f32} (h : cmpf .ole x y = fun _ => 1#1) (j : s.Idx) : (x j : EReal) ≤ y j := by
  have hj := congrFun h j
  by_contra hc
  have h0 : cmpf .ole x y j = 0#1 := by
    pointwise
    simp [hc]
  rw [h0] at hj
  exact absurd hj (by decide)

end Cert.Quant

end
-- ==== Proof.DownVal.lean ====
module

public import proofs.«01_k».proof.Proof.Gen.DownIdeal.Frame
public import proofs.«01_k».proof.Proof.Gen.DownIdeal.Value
public import proofs.«01_k».proof.Proof.Quant
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownVal

/-- The pattern of -∞. -/
theorem ninf : Ideal.ofBits .f32 0xFF800000#32 = ⊥ := by simp [Ideal.ofBits, Ideal.ieee]

/-- The largest magnitude of row `r`, from its 128 lane maxima, over 448. -/
def amax (A : FVec Ideal ⟨2, ![1152, 128]⟩ .f32) (r : Fin 1152) : EReal :=
  (Finset.univ.fold max (⊥ : EReal) fun k : Fin 128 => (A (ix2 r k) : EReal)) * Ideal.ofBits .f32 0x3B124925#32

/-- The codes of the hidden layer: each element over its row's scale, held to ±448. -/
def codes (v : FVec Ideal ⟨2, ![1152, 9728]⟩ .f32) (A : FVec Ideal ⟨2, ![1152, 128]⟩ .f32) : FVec Ideal ⟨2, ![1152, 9728]⟩ .fp8e4m3 :=
  fun j => min (Ideal.ofBits .f32 0x43E00000#32) (max (Ideal.ofBits .f32 0xC3E00000#32) (Ideal.div (v j) (Quant.scale (amax A (j 0)))))

/-- The scales, one a row. -/
def scales (A : FVec Ideal ⟨2, ![1152, 128]⟩ .f32) : FVec Ideal ⟨2, ![1152, 1]⟩ .f32 := fun j => Quant.scale (amax A (j 0))

/-- The down product of the codes, with its scales. -/
def prod (v : FVec Ideal ⟨2, ![1152, 9728]⟩ .f32) (A : FVec Ideal ⟨2, ![1152, 128]⟩ .f32)
    (W : FVec Ideal ⟨2, ![9728, 2560]⟩ .fp8e4m3) (T : FVec Ideal ⟨1, ![2560]⟩ .f32) (r : Fin 1152) (l : Fin 2560) : EReal :=
  (∑ k : Fin 9728, codes v A (ix2 r k) * W (ix2 k l)) * (Quant.scale (amax A r) * T (ix1 l))

/-- The coefficients of the merged hyper connection: the mixes composed, the first layer's beta mixed, the second's. -/
def coef (A : FVec Ideal ⟨2, ![4, 4]⟩ .f32) (a : FVec Ideal ⟨1, ![4]⟩ .f32) (M : FVec Ideal ⟨2, ![4, 4]⟩ .f32) (b : FVec Ideal ⟨1, ![4]⟩ .f32)
    (s : Fin 4) (k : Fin 6) : EReal :=
  if h : k.val < 4 then ∑ i : Fin 4, A (ix2 ⟨k.val, h⟩ i) * M (ix2 i s)
  else if k.val = 4 then ∑ i : Fin 4, a (ix1 i) * M (ix2 i s) else b (ix1 s)

/-- The output streams as the kernel sums them. -/
def out (C : Fin 4 → Fin 6 → EReal) (Y : Fin 1152 → Fin 2560 → EReal) (y1 : FVec Ideal ⟨2, ![1152, 2560]⟩ .f32)
    (x : FVec Ideal ⟨3, ![4, 1152, 2560]⟩ .bf16) : FVec Ideal ⟨3, ![4, 1152, 2560]⟩ .bf16 := fun j =>
  Y (j 1) (j 2) * C (j 0) 5 + y1 (ix2 (j 1) (j 2)) * C (j 0) 4 + x (ix3 0 (j 1) (j 2)) * C (j 0) 0 + x (ix3 1 (j 1) (j 2)) * C (j 0) 1
    + x (ix3 2 (j 1) (j 2)) * C (j 0) 2 + x (ix3 3 (j 1) (j 2)) * C (j 0) 3

section Kernel
open Cert.DownIdeal Cert.DownIdeal.Gen
variable (m : (ℓ : Loc nD τ sig) → Buf (Elt Ideal) ℓ)

/-- The block each window stages at each grid point, decided over the grid. -/
theorem idx : ∀ t : Fin cfg0.N, win0_0.index t = ![0, 0] ∧ win0_1.index t = ![t.val, 0] ∧ win0_2.index t = ![t.val, 0]
    ∧ win0_3.index t = ![0, 0] ∧ win0_4.index t = ![0, 0] ∧ win0_5.index t = ![0, t.val, 0]
    ∧ win0_6.index t = ![t.val, 0] ∧ win0_7.index t = ![t.val, 0] ∧ win0_8.index t = ![t.val, 0] ∧ win0_9.index t = ![0, t.val, 0] :=
  (by decide +kernel : ∀ t : Fin grid0.N, _)

/-- The payload of the scales is the scale found by comparisons. -/
theorem scale_payload (x : Vec Ideal S128x128 .f32) :
    k0_pay7 (F := Ideal) (k0_pay2 x) (k0_pay3 x) (k0_pay4 x) = Quant.scaleV (k0_pay2 x) := rfl

/-- The payload of the codes multiplies by the inverse found by comparisons. -/
theorem codes_payload (x : Vec Ideal S128x128 .f32) (v : Vec Ideal S128x9728 .f32) :
    k0_pay8 (F := Ideal) (k0_pay2 x) (k0_pay3 x) (k0_pay4 x) v
    = truncf .fp8e4m3 (minimumf (broadcast S128x9728 (Scalar.ofBits .f32 0x43E00000#32)) (maximumf (broadcast S128x9728 (Scalar.ofBits .f32 0xC3E00000#32))
        (mulf v (broadcastTo S128x9728 (Quant.invV (k0_pay2 x)) broadcasts_S128x1_S128x9728)))) bitsLt_fp8e4m3_f32 := rfl

/-- The arguments, by the names of the reference. -/
abbrev mixA (c : Dev nD) : FVec Ideal S4x4 .f32 := m ((c : Thread nD τ).loc main_arg0)
abbrev betaA (c : Dev nD) : FVec Ideal S4 .f32 := m ((c : Thread nD τ).loc main_arg1)
abbrev mixM (c : Dev nD) : FVec Ideal S4x4 .f32 := m ((c : Thread nD τ).loc main_arg2)
abbrev betaM (c : Dev nD) : FVec Ideal S4 .f32 := m ((c : Thread nD τ).loc main_arg3)
abbrev hid (c : Dev nD) : FVec Ideal S1152x9728 .f32 := m ((c : Thread nD τ).loc main_arg4)
abbrev lanes (c : Dev nD) : FVec Ideal S1152x128 .f32 := m ((c : Thread nD τ).loc main_arg5)
abbrev wD (c : Dev nD) : FVec Ideal S9728x2560 .fp8e4m3 := m ((c : Thread nD τ).loc main_arg6)
abbrev sD (c : Dev nD) : FVec Ideal S2560 .f32 := m ((c : Thread nD τ).loc main_arg7)
abbrev xs (c : Dev nD) : FVec Ideal S4x1152x2560 .bf16 := m ((c : Thread nD τ).loc main_arg8)
abbrev y1 (c : Dev nD) : FVec Ideal S1152x2560 .f32 := m ((c : Thread nD τ).loc main_arg9)

/-- A block's row maximum is the array's. -/
theorem amax_at (c : Dev nD) (t : Fin cfg0.N) (r : Fin 128) (R : Fin 1152) (hR : (R : ℕ) = t.val * 128 + r) :
    k0_pay2 (F := Ideal) (iblk m c 2 t) (ix2 r 0) = amax (lanes m c) R := by
  rw [amax, ← ninf]
  pointwise [k0_pay2]
  blk_point [iblk, V, idx t, hR]

/-- A row's scale in its block. -/
theorem scale_at (c : Dev nD) (t : Fin cfg0.N) (r : Fin 128) (R : Fin 1152) (hR : (R : ℕ) = t.val * 128 + r)
    (hA : amax (lanes m c) R < Quant.two 126) :
    Quant.scaleV (k0_pay2 (F := Ideal) (iblk m c 2 t)) (ix2 r 0) = Quant.scale (amax (lanes m c) R) := by
  have h := amax_at m c t r R hR
  rw [Quant.scaleV_apply _ _ (by rw [h]; exact hA), h]

/-- A block's codes are the array's. -/
theorem codes_at (c : Dev nD) (t : Fin cfg0.N) (r : Fin 128) (k : Fin 9728) (R : Fin 1152) (hR : (R : ℕ) = t.val * 128 + r)
    (hA : amax (lanes m c) R < Quant.two 126) :
    k0_pay8 (F := Ideal) (k0_pay2 (iblk m c 2 t)) (k0_pay3 (iblk m c 2 t)) (k0_pay4 (iblk m c 2 t)) (iblk m c 1 t) (ix2 r k)
    = codes (hid m c) (lanes m c) (ix2 R k) := by
  have h := amax_at m c t r R hR
  have hv := Quant.mul_invV (k0_pay2 (F := Ideal) (iblk m c 2 t)) (ix2 r 0) (by rw [h]; exact hA)
  rw [h] at hv
  rw [codes_payload]
  generalize Quant.invV (k0_pay2 (F := Ideal) (iblk m c 2 t)) = I at hv
  pointwise [codes]
  rw [hv]
  blk_point [iblk, V, idx t, hR]

theorem cat3 {A A' : Vec Ideal S4x4 .f32} {B B' C C' : Vec Ideal S4x1 .f32} (hA : A = A') (hB : B = B') (hC : C = C') (j) :
    concatenate S4x6 1 [⟨S4x4, A⟩, ⟨S4x1, B⟩, ⟨S4x1, C⟩] concatenates_S4x4_S4x1_S4x1_S4x6_d1 j
    = concatenate S4x6 1 [⟨S4x4, A'⟩, ⟨S4x1, B'⟩, ⟨S4x1, C'⟩] concatenates_S4x4_S4x1_S4x1_S4x6_d1 j := by
  subst hA hB hC; rfl

theorem V_coef (c : Dev nD) (s : Fin 4) (k : Fin 6) : (show EReal from V m c main_v5 (ix2 s k))
    = coef (mixA m c) (betaA m c) (mixM m c) (betaM m c) s k := by
  unfold V
  after_results
  dsimp only [Matrix.cons_val_zero, Matrix.cons_val_one, Matrix.cons_val]
  refine (cat3 (A' := transpose S4x4 [1, 0] (Host.dotGeneral (F := Ideal) dot_S4x4_S4x4_S4x4_1_0_0_1_n_n (some .fp32) (mixA m c) (mixM m c)) transposes_S4x4_S4x4_1_0)
    (B' := broadcastInDim S4x1 ![0] bcast_S4_S4x1_0 (Host.dotGeneral (F := Ideal) dot_S4_S4x4_S4_0_0_n_1_n_n (some .fp32) (betaA m c) (mixM m c)))
    (C' := broadcastInDim S4x1 ![0] bcast_S4_S4x1_0 (betaM m c)) (by after_results) (by after_results) (by after_results) _).trans ?_
  fin_cases k <;> pointwise <;> rfl

/-- The coefficients in their block. -/
theorem coef_at (c : Dev nD) (t : Fin cfg0.N) (s : Fin 4) (k : Fin 6) : (show EReal from iblk m c 0 t (ix2 s k))
    = coef (mixA m c) (betaA m c) (mixM m c) (betaM m c) s k := by
  refine Eq.trans ?_ (V_coef m c s k)
  blk_point [iblk, idx t]

/-- A block's down product is the array's. -/
theorem prod_at (c : Dev nD) (t : Fin cfg0.N) (r : Fin 128) (l : Fin 2560) (R : Fin 1152) (hR : (R : ℕ) = t.val * 128 + r)
    (hA : amax (lanes m c) R < Quant.two 126) :
    k0_pay9 (F := Ideal) (k0_pay7 (k0_pay2 (iblk m c 2 t)) (k0_pay3 (iblk m c 2 t)) (k0_pay4 (iblk m c 2 t)))
      (k0_pay8 (k0_pay2 (iblk m c 2 t)) (k0_pay3 (iblk m c 2 t)) (k0_pay4 (iblk m c 2 t)) (iblk m c 1 t)) (iblk m c 3 t) (iblk m c 4 t) (ix2 r l)
    = prod (hid m c) (lanes m c) (wD m c) (sD m c) R l := by
  have hc := fun k => codes_at m c t r k R hR hA
  have hs := scale_at m c t r R hR hA
  rw [scale_payload]
  generalize k0_pay8 (F := Ideal) (k0_pay2 (iblk m c 2 t)) (k0_pay3 (iblk m c 2 t)) (k0_pay4 (iblk m c 2 t)) (iblk m c 1 t) = C at hc
  generalize Quant.scaleV (k0_pay2 (F := Ideal) (iblk m c 2 t)) = S at hs
  pointwise [k0_pay9, prod]
  simp only [hc, hs]
  blk_point [iblk, V, idx t]

/-- A point's codes. -/
theorem out7 (c : Dev nD) (t : Fin cfg0.N) : (outsAt0 m c t).1
    = k0_pay8 (F := Ideal) (k0_pay2 (iblk m c 2 t)) (k0_pay3 (iblk m c 2 t)) (k0_pay4 (iblk m c 2 t)) (iblk m c 1 t) := by
  frame_out

/-- The codes after the run. -/
theorem final7 (c : Dev nD) (hA : ∀ r, amax (lanes m c) r < Quant.two 126) : (dats m 0 c).arrAt 7 (cfgs 0).N = codes (hid m c) (lanes m c) := by
  refine (dats m 0 c).arrAt_eq_of_covers 7 _ (by decide +kernel) fun t _ y => ?_
  blk_simp
  rw [after0_7, out7]
  have ht : t.val < 9 := lt_of_lt_of_eq t.isLt N_0
  have he : ((cfg0.win 7).blk t).view.emb y = ix2 ⟨t.val * 128 + y 0, by have := (y 0).isLt; simp at this; omega⟩ (y 1) := by blk_ext [idx t]
  rw [he]
  exact (congrArg _ (eq_ix2 y)).trans (codes_at m c t (y 0) (y 1) _ rfl (hA _))

/-- The scales after the run. -/
theorem final8 (c : Dev nD) (hA : ∀ r, amax (lanes m c) r < Quant.two 126) : (dats m 0 c).arrAt 8 (cfgs 0).N = scales (lanes m c) := by
  refine (dats m 0 c).arrAt_eq_of_covers 8 _ (by decide +kernel) fun t _ y => ?_
  blk_simp
  rw [after0_8]; frame_out
  have ht : t.val < 9 := lt_of_lt_of_eq t.isLt N_0
  have he : ((cfg0.win 8).blk t).view.emb y = ix2 ⟨t.val * 128 + y 0, by have := (y 0).isLt; simp at this; omega⟩ 0 := by blk_ext [idx t]
  have hy : y = ix2 (y 0) 0 := by blk_ext
  rw [he]
  exact (congrArg _ hy).trans (scale_at m c t (y 0) _ rfl (hA _))

/-- The streams after the run. -/
theorem final9 (c : Dev nD) (hA : ∀ r, amax (lanes m c) r < Quant.two 126) : (dats m 0 c).arrAt 9 (cfgs 0).N
    = out (coef (mixA m c) (betaA m c) (mixM m c) (betaM m c)) (prod (hid m c) (lanes m c) (wD m c) (sD m c)) (y1 m c) (xs m c) := by
  refine (dats m 0 c).arrAt_eq_of_covers 9 _ (by decide +kernel) fun t _ y => ?_
  blk_simp
  rw [after0_9]; frame_out
  unfold k0_pay10
  have ht : t.val < 9 := lt_of_lt_of_eq t.isLt N_0
  have hp := fun r l => prod_at m c t r l ⟨t.val * 128 + r, by omega⟩ rfl (hA _)
  generalize k0_pay9 (F := Ideal) (k0_pay7 (k0_pay2 (iblk m c 2 t)) (k0_pay3 (iblk m c 2 t)) (k0_pay4 (iblk m c 2 t)))
      (k0_pay8 (k0_pay2 (iblk m c 2 t)) (k0_pay3 (iblk m c 2 t)) (k0_pay4 (iblk m c 2 t)) (iblk m c 1 t)) (iblk m c 3 t) (iblk m c 4 t) = P at hp
  have hk := coef_at m c t
  have he : ((cfg0.win 9).blk t).view.emb y = ix3 (y 0) ⟨t.val * 128 + y 1, by have := (y 1).isLt; simp at this; omega⟩ (y 2) := by blk_ext [idx t]
  rw [he]
  canon_tiles x h
  case piece0 =>
    have e0 : y 0 = (3 : Fin 4) := Fin.ext (by show (y 0).val = 3; omega)
    have e2 : y 2 = x 2 := Fin.ext h2
    rw [e0, e2]
    simp only [h1]
    open_payloads
    pointwise [out, hk, hp]
    blk_point [iblk, V, idx t]
  case piece1 =>
    have e0 : y 0 = (2 : Fin 4) := Fin.ext (by show (y 0).val = 2; omega)
    have e2 : y 2 = x 2 := Fin.ext h2
    rw [e0, e2]
    simp only [h1]
    open_payloads
    pointwise [out, hk, hp]
    blk_point [iblk, V, idx t]
  case piece2 =>
    have e0 : y 0 = (1 : Fin 4) := Fin.ext (by show (y 0).val = 1; omega)
    have e2 : y 2 = x 2 := Fin.ext h2
    rw [e0, e2]
    simp only [h1]
    open_payloads
    pointwise [out, hk, hp]
    blk_point [iblk, V, idx t]
  case piece3 =>
    have e0 : y 0 = (0 : Fin 4) := Fin.ext (by show (y 0).val = 0; omega)
    have e2 : y 2 = x 2 := Fin.ext h2
    rw [e0, e2]
    simp only [h1]
    open_payloads
    pointwise [out, hk, hp]
    blk_point [iblk, V, idx t]

end Kernel
end Cert.DownVal
end
-- ==== Proof.DownRef.lean ====
module

public import proofs.«01_k».proof.Proof.Gen.DownRefIdeal.Frame
public import proofs.«01_k».proof.Proof.DownVal

@[expose] public section

set_option maxRecDepth 16384

noncomputable section

open Idealize.ShloMosaic Idealize.ShloMosaic.TcCoe Idealize.SL.Sem
open Idealize.ShloMosaic.Pipeline (Dat)

namespace Cert.DownVal

section Reference
open Cert.DownRefIdeal Cert.DownRefIdeal.Gen
variable (m : (ℓ : Loc nD τ sig) → Buf (Elt Ideal) ℓ)

/-- The arguments, by the names of the reference. -/
abbrev mixAR (c : Dev nD) : FVec Ideal S4x4 .f32 := m ((c : Thread nD τ).loc main_arg0)
abbrev betaAR (c : Dev nD) : FVec Ideal S4 .f32 := m ((c : Thread nD τ).loc main_arg1)
abbrev mixMR (c : Dev nD) : FVec Ideal S4x4 .f32 := m ((c : Thread nD τ).loc main_arg2)
abbrev betaMR (c : Dev nD) : FVec Ideal S4 .f32 := m ((c : Thread nD τ).loc main_arg3)
abbrev hidR (c : Dev nD) : FVec Ideal S1152x9728 .f32 := m ((c : Thread nD τ).loc main_arg4)
abbrev lanesR (c : Dev nD) : FVec Ideal S1152x128 .f32 := m ((c : Thread nD τ).loc main_arg5)
abbrev wDR (c : Dev nD) : FVec Ideal S9728x2560 .fp8e4m3 := m ((c : Thread nD τ).loc main_arg6)
abbrev sDR (c : Dev nD) : FVec Ideal S2560 .f32 := m ((c : Thread nD τ).loc main_arg7)
abbrev xsR (c : Dev nD) : FVec Ideal S4x1152x2560 .bf16 := m ((c : Thread nD τ).loc main_arg8)
abbrev y1R (c : Dev nD) : FVec Ideal S1152x2560 .f32 := m ((c : Thread nD τ).loc main_arg9)

/-- The reference's one point stages whole arrays. -/
theorem idxR : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- The scale by the reference's lines: the table of powers of two, the least above, 1 below the least normal number. -/
def hostScale (x : FVec Ideal S1152x1 .f32) : FVec Ideal S1152x1 .f32 :=
  select (cmpf .olt x (broadcastInDim S1152x1 ![] bcast_S_S1152x1 (constant S_ .f32 0x00800000#32)))
    (broadcastInDim S1152x1 ![] bcast_S_S1152x1 (constant S_ .f32 0x3F800000#32))
    (broadcastInDim S1152x1 ![0] bcast_S1152_S1152x1_0
      (Host.reduce FloatOps.minimumf
        (select
          (cmpf .ogt
            (broadcastInDim S1152x254 ![0, 1] bcast_S1x254_S1152x254_0_1
              (Host.powf (broadcastInDim S1x254 ![] bcast_S_S1x254 (constant S_ .f32 0x40000000#32))
                (sitofp .f32 (subi (iotaInDim S1x254 32 1) (broadcastInDim S1x254 ![] bcast_S_S1x254 (constantI S_ 32 126#32))))))
            (broadcastInDim S1152x254 ![0, 1] bcast_S1152x1_S1152x254_0_1 x))
          (broadcastInDim S1152x254 ![0, 1] bcast_S1x254_S1152x254_0_1
            (Host.powf (broadcastInDim S1x254 ![] bcast_S_S1x254 (constant S_ .f32 0x40000000#32))
              (sitofp .f32 (subi (iotaInDim S1x254 32 1) (broadcastInDim S1x254 ![] bcast_S_S1x254 (constantI S_ 32 126#32))))))
          (broadcastInDim S1152x254 ![] bcast_S_S1152x254 (constant S_ .f32 0x7F800000#32)))
        (constant S_ .f32 0x7F800000#32) reducesTo_S1152x254_S1152_d1 h_S_))

/-- Those lines give the scale. -/
theorem hostScale_apply (x : FVec Ideal S1152x1 .f32) (r : Fin 1152) : (show EReal from hostScale x (ix2 r 0)) = Quant.scale (x (ix2 r 0)) := by
  pointwise [hostScale]
  simp only [Quant.pinf, Quant.least]
  exact Quant.scale_of_table (x (ix2 r 0)) _ Quant.table

/-- The reference's row maxima over 448. -/
def hostX (A : FVec Ideal S1152x128 .f32) : FVec Ideal S1152x1 .f32 :=
  mulf (broadcastInDim S1152x1 ![0] bcast_S1152_S1152x1_0
      (Host.reduce FloatOps.maximumf A (constant S_ .f32 0xFF800000#32) reducesTo_S1152x128_S1152_d1 h_S_))
    (broadcastInDim S1152x1 ![] bcast_S_S1152x1 (constant S_ .f32 0x3B124925#32))

theorem hostX_apply (A : FVec Ideal S1152x128 .f32) (r : Fin 1152) : (show EReal from hostX A (ix2 r 0)) = amax A r := by
  rw [amax, ← ninf]
  pointwise [hostX]

/-- The region finds the scales. -/
theorem V0_scale (c : Dev nD) (r : Fin 1152) : (show EReal from V0 m c main_v18 (ix2 r 0)) = Quant.scale (amax (lanesR m c) r) := by
  have h : V0 m c main_v18 = StableHlo.after (hostOps0 ++ hostOps0_1 ++ hostOps0_2 ++ hostOps0_3 ++ hostOps0_4) (fun b => m (c, b)) (Proc.devRef .tc main_v18) := rfl
  rw [h]
  simp only [List.cons_append, List.nil_append]
  after_results
  simp -implicitDefEqProofs only [StableHlo.TRef.toBuf, StableHlo.TRef.ofBuf, cast_cast, cast_eq, id]
  exact (hostScale_apply (hostX (lanesR m c)) r).trans (congrArg Quant.scale (hostX_apply (lanesR m c) r))

theorem V0_sw (c : Dev nD) (l : Fin 2560) : (show EReal from V0 m c main_v19 (ix2 (0 : Fin 1) l)) = sDR m c (ix1 l) := by
  have h : V0 m c main_v19 = StableHlo.after (hostOps0 ++ hostOps0_1 ++ hostOps0_2 ++ hostOps0_3 ++ hostOps0_4) (fun b => m (c, b)) (Proc.devRef .tc main_v19) := rfl
  rw [h]
  simp only [List.cons_append, List.nil_append]
  after_results
  pointwise

/-- The scales in their block. -/
theorem scaleR_at (c : Dev nD) (r : Fin 1152) : (show EReal from iblk m c 1 t0_0 (ix2 r 0)) = Quant.scale (amax (lanesR m c) r) := by
  refine Eq.trans ?_ (V0_scale m c r)
  unfold iblk
  generalize hV : V m c main_v18 = X
  rw [show V0 m c main_v18 = X from hV]
  blk_ext [idxR t0_0]

/-- The codes of the reference. -/
theorem finalR4 (c : Dev nD) : (dats m 0 c).arrAt 4 (cfgs 0).N = codes (hidR m c) (lanesR m c) := by
  refine (dats m 0 c).arrAt_eq_of_after_last 4 t0_0 (by decide +kernel) _ fun j => ?_
  blk_simp
  rw [after0_4]; frame_out
  have h1 := scaleR_at m c
  pointwise [k0_pay1, codes, h1]
  blk_point [iblk, idxR t0_0]

theorem finalR5 (c : Dev nD) : (dats m 0 c).arrAt 5 (cfgs 0).N = fun j => prod (hidR m c) (lanesR m c) (wDR m c) (sDR m c) (j 0) (j 1) := by
  refine (dats m 0 c).arrAt_eq_of_after_last 5 t0_0 (by decide +kernel) _ fun j => ?_
  blk_simp
  rw [after0_5]; frame_out
  have h1 := scaleR_at m c
  pointwise [k0_pay1, k0_pay2, codes, prod, h1]
  blk_point [iblk, idxR t0_0]
  refine Eq.trans ?_ (V0_sw m c (j 1))
  blk_ext [idxR t0_0]

/-- The streams as the reference sums them: one hyper connection after the other. -/
def outR (A : FVec Ideal ⟨2, ![4, 4]⟩ .f32) (a : FVec Ideal ⟨1, ![4]⟩ .f32) (M : FVec Ideal ⟨2, ![4, 4]⟩ .f32) (b : FVec Ideal ⟨1, ![4]⟩ .f32)
    (Y : Fin 1152 → Fin 2560 → EReal) (y1 : FVec Ideal ⟨2, ![1152, 2560]⟩ .f32)
    (x : FVec Ideal ⟨3, ![4, 1152, 2560]⟩ .bf16) : FVec Ideal ⟨3, ![4, 1152, 2560]⟩ .bf16 := fun j =>
  ∑ i : Fin 4, M (ix2 i (j 0)) * (∑ k : Fin 4, A (ix2 k i) * x (ix3 k (j 1) (j 2)) + a (ix1 i) * y1 (ix2 (j 1) (j 2)))
    + b (ix1 (j 0)) * Y (j 1) (j 2)

theorem V0_arg (c : Dev nD) : V0 m c main_arg0 = mixAR m c ∧ V0 m c main_arg1 = betaAR m c ∧ V0 m c main_arg2 = mixMR m c
    ∧ V0 m c main_arg3 = betaMR m c ∧ V0 m c main_arg8 = xsR m c ∧ V0 m c main_arg9 = y1R m c := by
  refine ⟨?_, ?_, ?_, ?_, ?_, ?_⟩ <;> rfl

/-- The streams of the reference after its run. -/
theorem tailR_out (c : Dev nD) : Pipeline.afterTail₀ cfgs (dats m) 0 (V0 m) [hostOps1] c main_v36
    = outR (mixAR m c) (betaAR m c) (mixMR m c) (betaMR m c) (prod (hidR m c) (lanesR m c) (wDR m c) (sDR m c)) (y1R m c) (xsR m c) := by
  have h : Pipeline.afterTail₀ cfgs (dats m) 0 (V0 m) [hostOps1] c main_v36
    = StableHlo.after hostOps1 (Pipeline.withArrays (cfgs 0).spec c (V0 m c) fun w => (dats m 0 c).arrAt w (cfgs 0).N) (Proc.devRef .tc main_v36) := rfl
  rw [h]
  have h5 : (Pipeline.withArrays (cfgs 0).spec c (V0 m c) fun w => (dats m 0 c).arrAt w (cfgs 0).N) (Proc.devRef .tc main_v20_1)
    = (dats m 0 c).arrAt 5 (cfgs 0).N := Pipeline.withArrays_arr (cfgs 0).spec launch0.win.arr_inj c _ _ 5
  have ha (b : Ref sig .tc) (hb : ∀ w, Pipeline.arrRef (cfgs 0).spec w ≠ b) :
    (Pipeline.withArrays (cfgs 0).spec c (V0 m c) fun w => (dats m 0 c).arrAt w (cfgs 0).N) (Proc.devRef .tc b) = V0 m c (Proc.devRef .tc b) :=
    Pipeline.withArrays_of_ne (cfgs 0).spec c _ _ b hb
  have h0 := ha main_arg0 (by decide)
  have h1 := ha main_arg1 (by decide)
  have h2 := ha main_arg2 (by decide)
  have h3 := ha main_arg3 (by decide)
  have h8 := ha main_arg8 (by decide)
  have h9 := ha main_arg9 (by decide)
  obtain ⟨v0, v1, v2, v3, v8, v9⟩ := V0_arg m c
  rw [v0] at h0
  rw [v1] at h1
  rw [v2] at h2
  rw [v3] at h3
  rw [v8] at h8
  rw [v9] at h9
  clear ha
  generalize (Pipeline.withArrays (cfgs 0).spec c (V0 m c) fun w => (dats m 0 c).arrAt w (cfgs 0).N) = W at h5 h0 h1 h2 h3 h8 h9
  after_results
  rw [h5, finalR5 m c, h0, h1, h2, h3, h8, h9]
  funext j
  idx_vars j
  pointwise [outR]

end Reference
end Cert.DownVal
end
-- ==== Proof.DownClaim.lean ====
module

public import proofs.«01_k».proof.Defs
public import proofs.«01_k».proof.Proof.Gen.DownIdeal
public import proofs.«01_k».proof.Proof.Gen.DownRefIdeal
public import proofs.«01_k».proof.Proof.Gen.Pre_down_finite
public import proofs.«01_k».proof.Proof.DownRef

@[expose] public section

set_option maxRecDepth 16384

noncomputable section

open Idealize.ShloMosaic Idealize.ShloMosaic.TcCoe Idealize.SL.Sem

namespace Cert.DownVal
open Cert.Quant (real_of le_of_ones)

open Cert.DownRefIdeal Cert.DownRefIdeal.Gen in
/-- The scales of the reference. -/
theorem V0_scales (m : (ℓ : Loc nD τ sig) → Buf (Elt Ideal) ℓ) (c : Dev nD) : V0 m c main_v18 = scales (lanesR m c) := by
  have h := V0_scale m c
  generalize V0 m c main_v18 = X at h
  funext j
  have hj : j = ix2 (j 0) 0 := by blk_ext
  rw [hj]
  exact h (j 0)

/-- The merged hyper connection is one hyper connection after the other. -/
theorem out_eq (A : FVec Ideal ⟨2, ![4, 4]⟩ .f32) (a : FVec Ideal ⟨1, ![4]⟩ .f32) (M : FVec Ideal ⟨2, ![4, 4]⟩ .f32) (b : FVec Ideal ⟨1, ![4]⟩ .f32)
    (Y : Fin 1152 → Fin 2560 → EReal) (y1 : FVec Ideal ⟨2, ![1152, 2560]⟩ .f32)
    (x : FVec Ideal ⟨3, ![4, 1152, 2560]⟩ .bf16)
    (hA : ∀ j, ∃ r : ℝ, (A j : EReal) = r) (ha : ∀ j, ∃ r : ℝ, (a j : EReal) = r) (hM : ∀ j, ∃ r : ℝ, (M j : EReal) = r)
    (hy : ∀ j, ∃ r : ℝ, (y1 j : EReal) = r) (hx : ∀ j, ∃ r : ℝ, (x j : EReal) = r) :
    out (coef A a M b) Y y1 x = outR A a M b Y y1 x := by
  choose A' hA using hA
  choose a' ha using ha
  choose M' hM using hM
  choose y' hy using hy
  choose x' hx using hx
  funext j
  idx_vars j
  show Y j1 j2 * b (ix1 j0) + y1 (ix2 j1 j2) * (∑ i : Fin 4, a (ix1 i) * M (ix2 i j0))
      + x (ix3 0 j1 j2) * (∑ i : Fin 4, A (ix2 0 i) * M (ix2 i j0)) + x (ix3 1 j1 j2) * (∑ i : Fin 4, A (ix2 1 i) * M (ix2 i j0))
      + x (ix3 2 j1 j2) * (∑ i : Fin 4, A (ix2 2 i) * M (ix2 i j0)) + x (ix3 3 j1 j2) * (∑ i : Fin 4, A (ix2 3 i) * M (ix2 i j0))
    = ∑ i : Fin 4, M (ix2 i j0) * (∑ k : Fin 4, A (ix2 k i) * x (ix3 k j1 j2) + a (ix1 i) * y1 (ix2 j1 j2)) + b (ix1 j0) * Y j1 j2
  simp only [Fin.sum_univ_four, hA, ha, hM, hy, hx]
  rw [mul_comm (Y j1 j2) _]
  generalize (b (ix1 j0) : EReal) * Y j1 j2 = B
  simp only [← EReal.coe_mul, ← EReal.coe_add]
  simp only [add_assoc]
  simp only [← EReal.coe_add]
  rw [add_comm B]
  refine congrArg (fun z : ℝ => (z : EReal) + B) ?_
  ring

open Cert.DownIdeal in
/-- What the precondition says of the arguments. -/
theorem pre_real {m : (ℓ : Loc nD τ sig) → Buf (Elt Ideal) ℓ}
    (h : Cert.Pre_DownIdeal_down_finite (hPre_down_finite := Cert.Pre_down_finite.Gen.facts) m) (c : Dev nD) :
    (∀ j, ∃ r : ℝ, (mixA m c j : EReal) = r) ∧ (∀ j, ∃ r : ℝ, (betaA m c j : EReal) = r) ∧ (∀ j, ∃ r : ℝ, (mixM m c j : EReal) = r)
    ∧ (∀ r, amax (lanes m c) r < Quant.two 126) ∧ (∀ j, ∃ r : ℝ, (xs m c j : EReal) = r) ∧ (∀ j, ∃ r : ℝ, (y1 m c j : EReal) = r) := by
  obtain ⟨h0, h1, h2, h3, h5, h8, h9⟩ := h c
  refine ⟨fun j => real_of (le_of_ones h0 j), fun j => real_of (le_of_ones h1 j), fun j => real_of (le_of_ones h2 j), fun r => ?_,
    fun j => real_of (le_of_ones h8 j), fun j => real_of (le_of_ones h9 j)⟩
  refine Quant.small ((Finset.fold_max_le _).mpr ⟨bot_le, fun k _ => ?_⟩)
  exact (le_max_left _ _).trans (le_of_ones h5 (ix2 r k))

open Cert.DownIdeal Cert.DownIdeal.Gen in
/-- The kernel's streams, summed as the reference sums them. -/
theorem finalK {m : (ℓ : Loc nD τ sig) → Buf (Elt Ideal) ℓ}
    (h : Cert.Pre_DownIdeal_down_finite (hPre_down_finite := Cert.Pre_down_finite.Gen.facts) m) (c : Dev nD) :
    (dats m 0 c).arrAt 9 (cfgs 0).N = outR (mixA m c) (betaA m c) (mixM m c) (betaM m c)
      (prod (hid m c) (lanes m c) (wD m c) (sD m c)) (y1 m c) (xs m c) := by
  obtain ⟨p0, p1, p2, p5, p8, p9⟩ := pre_real h c
  rw [final9 m c p5]
  exact out_eq _ _ _ _ _ _ _ p0 p1 p2 p9 p8

open Cert.DownRefIdeal Cert.DownRefIdeal.Gen in
theorem finalR1 (m : (ℓ : Loc nD τ sig) → Buf (Elt Ideal) ℓ) (c : Dev nD) : (dats m 0 c).arrAt 1 (cfgs 0).N = scales (lanesR m c) := by
  rw [(dats m 0 c).arrAt_in 1 rfl, A_eq m c 1]
  exact V0_scales m c

open Cert.DownRefIdeal Cert.DownRefIdeal.Gen in
/-- The reference's run, with its results. -/
theorem runR (m : (ℓ : Loc nD τ sig) → Buf (Elt Ideal) ℓ) (g : Dev nD → PrngReg) :
    θ_run (defs (F := Ideal)) (onTc (τ := τ) (main (F := Ideal))) (s₀ m g) (fun r => ∀ c : Dev nD,
      r.2.mem ((c : Thread nD τ).loc main_v20_0) = codes (hidR m c) (lanesR m c)
      ∧ r.2.mem ((c : Thread nD τ).loc main_v18) = scales (lanesR m c)
      ∧ r.2.mem ((c : Thread nD τ).loc main_v36) = outR (mixAR m c) (betaAR m c) (mixMR m c) (betaMR m c)
          (prod (hidR m c) (lanesR m c) (wDR m c) (sDR m c)) (y1R m c) (xsR m c)) := by
  refine θ_run_mono (run_main m g) ?_
  intro r h c
  refine ⟨?_, ?_, ?_⟩
  · have e := (h c).1 4
    rw [finalR4 m c] at e
    exact e
  · have e := (h c).1 1
    rw [finalR1 m c] at e
    exact e
  · have e := (h c).2 main_v36 (Pipeline.mem_restRefs_of main_v36 (by decide) (by decide))
    rw [tailR_out m c] at e
    exact e

set_option maxHeartbeats 2000000 in
/-- Over the reals the down call returns what the plain reference returns: the codes and the scales of the hidden layer and
    the output streams. -/
theorem algebraic : Cert.algebraic_DownIdeal_DownRefIdeal_pre_down_finite (hDownIdeal := Cert.DownIdeal.Gen.facts)
    (hDownRefIdeal := Cert.DownRefIdeal.Gen.facts) (hPre_down_finite := Cert.Pre_down_finite.Gen.facts) := by
  pair_intro
  · run_from Cert.DownIdeal.Gen.run_main m g
  · refine θ_run_mono (θ_run_and (runR m' g') (Cert.DownRefIdeal.Gen.unchanged m' g')) ?_
    intro r h c
    obtain ⟨p0, p1, p2, p5, p8, p9⟩ := pre_real hpre c
    obtain ⟨a0, a1, a2, a3, a4, a5, a6, a7, a8, a9⟩ := hagree c
    obtain ⟨e1, e2, e3⟩ := h.1 c
    have e9 := finalK hpre c
    have e7 := final7 m c p5
    have e8 := final8 m c p5
    unfold hidR lanesR at e1
    unfold lanesR at e2
    unfold mixAR betaAR mixMR betaMR hidR lanesR wDR sDR y1R xsR at e3
    rw [a4, a5] at e1
    rw [a5] at e2
    rw [a0, a1, a2, a3, a4, a5, a6, a7, a8, a9] at e3
    exact ⟨e1.trans e7.symm, e2.trans e8.symm, e3.trans e9.symm, h.2 c⟩

end Cert.DownVal

end
-- ==== Proof.AttnBlock.lean ====
module

public import proofs.«01_k».proof.Proof.Gen.AttnIdeal.Frame
public import proofs.«01_k».proof.Proof.Gen.AttnIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnVal

/-- The pattern of -∞. -/
theorem ninf : Ideal.ofBits .f32 0xFF800000#32 = ⊥ := by simp [Ideal.ofBits, Ideal.ieee]

/-- The largest score. -/
def top {n : ℕ} (x : Fin n → EReal) : EReal := Finset.univ.fold max ⊥ x

/-- The values `v` weighted by the softmax of the scores `x`. -/
def soft {n : ℕ} (x v : Fin n → EReal) : EReal :=
  ∑ s, Ideal.div (Ideal.exp (x s - top x)) (∑ u, Ideal.exp (x u - top x)) * v s

/-- Position `s` is after position `p`, as the kernel compares them. -/
theorem after_iff (p s : ℕ) (hp : p < 1024) (hs : s < 1024) :
    BitVec.slt (BitVec.ofNat 32 p) (BitVec.ofNat 32 s) = decide (p < s) := by
  rw [BitVec.slt_eq_decide]
  have h1 : (BitVec.ofNat 32 p).toInt = p := by rw [BitVec.toInt_eq_toNat_of_lt] <;> simp only [BitVec.toNat_ofNat] <;> omega
  have h2 : (BitVec.ofNat 32 s).toInt = s := by rw [BitVec.toInt_eq_toNat_of_lt] <;> simp only [BitVec.toNat_ofNat] <;> omega
  rw [h1, h2]
  simp

theorem select_after (p s : ℕ) (hp : p < 1024) (hs : s < 1024) (a b : EReal) :
    Scalar.select (IntOp.cmpi CmpIPredicate.sgt (BitVec.ofNat 32 s) (BitVec.ofNat 32 p)) a b = if p < s then a else b := by
  unfold Scalar.select IntOp.cmpi
  rw [show (BitVec.slt (BitVec.ofNat 32 p) (BitVec.ofNat 32 s)) = decide (p < s) from after_iff p s hp hs]
  by_cases h : p < s <;> simp [h]

/-- A sum whose terms past `n` are zero. -/
theorem sum_prefix {n m : ℕ} (h : n ≤ m) (f : Fin m → EReal) (hz : ∀ s : Fin m, n ≤ s.val → f s = 0) :
    ∑ s : Fin n, f (Fin.castLE h s) = ∑ s, f s := by
  obtain ⟨k, rfl⟩ := Nat.exists_eq_add_of_le h
  rw [Fin.sum_univ_add]
  rw [Finset.sum_eq_zero (s := Finset.univ) (f := fun i => f (Fin.natAdd n i)) fun i _ => hz _ (by simp), add_zero]
  rfl

/-- A maximum whose terms past `n` are -∞. -/
theorem top_prefix {n m : ℕ} (h : n ≤ m) (x : Fin m → EReal) (hb : ∀ s : Fin m, n ≤ s.val → x s = ⊥) :
    top (fun s : Fin n => x (Fin.castLE h s)) = top x := by
  unfold top
  apply le_antisymm
  · refine (Finset.fold_max_le _).mpr ⟨bot_le, fun s _ => (Finset.le_fold_max _).mpr (Or.inr ⟨Fin.castLE h s, Finset.mem_univ _, le_rfl⟩)⟩
  · refine (Finset.fold_max_le _).mpr ⟨bot_le, fun s _ => ?_⟩
    by_cases hs : s.val < n
    · exact (Finset.le_fold_max _).mpr (Or.inr ⟨⟨s.val, hs⟩, Finset.mem_univ _, le_rfl⟩)
    · rw [hb s (by omega)]; exact bot_le

theorem exp_nonneg (x : EReal) : 0 ≤ Ideal.exp x := by
  induction x with
  | bot => exact le_rfl
  | top => exact le_top
  | coe r => exact EReal.coe_nonneg.mpr (Real.exp_pos r).le

/-- The softmax over a prefix is the softmax over the whole, where the rest is masked: the masked scores weigh nothing. -/
theorem soft_prefix {n m : ℕ} (h : n ≤ m) (x v : Fin m → EReal) (hb : ∀ s : Fin m, n ≤ s.val → x s = ⊥)
    (s0 : Fin m) (r0 : ℝ) (h0 : x s0 = r0) (ht : ∀ s, x s ≠ ⊤) :
    soft (fun s : Fin n => x (Fin.castLE h s)) (fun s => v (Fin.castLE h s)) = soft x v := by
  have hexp : ∀ s : Fin m, n ≤ s.val → Ideal.exp (x s - top x) = 0 := fun s hs => by
    rw [hb s hs, sub_eq_add_neg, EReal.bot_add]; rfl
  have hmt : top x ≠ ⊤ := by
    have : top x < ⊤ := (Finset.fold_max_lt _).mpr ⟨bot_lt_top, fun s _ => lt_top_iff_ne_top.mpr (ht s)⟩
    exact this.ne
  have hmb : top x ≠ ⊥ := by
    have : (r0 : EReal) ≤ top x := (Finset.le_fold_max _).mpr (Or.inr ⟨s0, Finset.mem_univ _, h0.symm.le⟩)
    intro hc
    rw [hc] at this
    exact absurd (le_bot_iff.mp this) (EReal.coe_ne_bot r0)
  have hS : (∑ u, Ideal.exp (x u - top x)) ≠ 0 := by
    have h1 : Ideal.exp (x s0 - top x) ≤ ∑ u, Ideal.exp (x u - top x) :=
      Finset.single_le_sum (f := fun u => Ideal.exp (x u - top x)) (fun u _ => exp_nonneg _) (Finset.mem_univ s0)
    have h2 : 0 < Ideal.exp (x s0 - top x) := by
      rw [h0]
      lift top x to ℝ using ⟨hmt, hmb⟩ with M
      rw [← EReal.coe_sub]
      exact EReal.coe_pos.mpr (Real.exp_pos _)
    exact (lt_of_lt_of_le h2 h1).ne'
  unfold soft
  rw [top_prefix h x hb, sum_prefix h (fun u => Ideal.exp (x u - top x)) hexp]
  refine sum_prefix h (fun s => Ideal.div (Ideal.exp (x s - top x)) (∑ u, Ideal.exp (x u - top x)) * v s) fun s hs => ?_
  show Ideal.div (Ideal.exp (x s - top x)) _ * v s = 0
  rw [hexp s hs, Ideal.div, if_neg hS, zero_mul, zero_mul]

open Cert.AttnIdeal Cert.AttnIdeal.Gen

/-- The queries of the four heads of a group, one under the other. -/
def cat (a b c d : Vec Ideal S128x128 .bf16) : FVec Ideal S512x128 .bf16 :=
  concatenate S512x128 0 [⟨S128x128, a⟩, ⟨S128x128, b⟩, ⟨S128x128, c⟩, ⟨S128x128, d⟩] concatenates_S128x128_S128x128_S128x128_S128x128_S512x128_d0

/-- The query position of each row, where the block begins at position 0. -/
def rows128 : IVec S512x128 32 :=
  addi (select (andi (xori (cmpi .slt (remsi (iota .tc S512x128 32 [0] iota_S512x128_d0_w32) (broadcast S512x128 (Scalar.select (Scalar.cmpi .eq 128#32 0#32) 1#32 128#32))) (broadcast S512x128 0#32))
        (broadcastTo S512x128 (broadcast S512x128 (Scalar.cmpi .slt (Scalar.select (Scalar.cmpi .eq 128#32 0#32) 1#32 128#32) 0#32)) broadcasts_S512x128_S512x128))
        (cmpi .ne (remsi (iota .tc S512x128 32 [0] iota_S512x128_d0_w32) (broadcast S512x128 (Scalar.select (Scalar.cmpi .eq 128#32 0#32) 1#32 128#32))) (broadcast S512x128 0#32)))
      (addi (remsi (iota .tc S512x128 32 [0] iota_S512x128_d0_w32) (broadcast S512x128 (Scalar.select (Scalar.cmpi .eq 128#32 0#32) 1#32 128#32))) (broadcast S512x128 (Scalar.select (Scalar.cmpi .eq 128#32 0#32) 1#32 128#32)))
      (remsi (iota .tc S512x128 32 [0] iota_S512x128_d0_w32) (broadcast S512x128 (Scalar.select (Scalar.cmpi .eq 128#32 0#32) 1#32 128#32))))
    (broadcast S512x128 0#32)

/-- The masked scores. -/
def scores128 (q : FVec Ideal S512x128 .bf16) (k : Vec Ideal S128x128 .bf16) : FVec Ideal S512x128 .f32 :=
  select (cmpi .sgt (iota .tc S512x128 32 [1] iota_S512x128_d1_w32) rows128) (broadcast S512x128 (Scalar.ofBits .f32 0xFF800000#32))
    (mulf (matmul (φ₁ := .bf16) (φ₂ := .bf16) dot_S512x128_S128x128_S512x128_1_1_0_0_n_n none q k (constant S512x128 .f32 0x00000000#32)) (broadcast S512x128 (Scalar.ofBits .f32 0x3DB504F3#32)))

/-- Their exponentials, less the row's largest. -/
def exps128 (x : FVec Ideal S512x128 .f32) : FVec Ideal S512x128 .f32 :=
  exp (subf x (broadcastTo S512x128 (shapeCast S512x1 (multiReduction .maximumf [1] S512 x 0xFF800000#32 reduces_S512x128_S512 (.inl rfl) rfl) shapeCasts_S512_S512x1) broadcasts_S512x1_S512x128))

/-- The block's output. -/
def att128 (q : FVec Ideal S512x128 .bf16) (k v : Vec Ideal S128x128 .bf16) : FVec Ideal S512x128 .f32 :=
  matmul (φ₁ := .bf16) (φ₂ := .bf16) dot_S512x128_S128x128_S512x128_1_0_0_1_n_n none (truncf .bf16 (divf (exps128 (scores128 q k)) (broadcastTo S512x128
    (shapeCast S512x1 (multiReduction .add [1] S512 (exps128 (scores128 q k)) 0x00000000#32 reduces_S512x128_S512 (.inl rfl) rfl) shapeCasts_S512_S512x1)
      broadcasts_S512x1_S512x128)) bitsLt_bf16_f32) v (constant S512x128 .f32 0x00000000#32)

theorem rows_apply128 (r : Fin 512) (s : Fin 128) : rows128 (ix2 r s) = BitVec.ofNat 32 (r.val % 128 + 0) :=
  (by decide +kernel : ∀ r : Fin 512, rows128 (ix2 r (0 : Fin 128)) = BitVec.ofNat 32 (r.val % 128 + 0)) r

theorem scores_apply128 (q : FVec Ideal S512x128 .bf16) (k : Vec Ideal S128x128 .bf16) (r : Fin 512) (s : Fin 128) :
    (show EReal from scores128 q k (ix2 r s)) = if r.val % 128 + 0 < s.val then ⊥ else (∑ f : Fin 128, q (ix2 r f) * k (ix2 s f)) * Ideal.ofBits .f32 0x3DB504F3#32 := by
  have hr := rows_apply128 r s
  unfold scores128
  generalize rows128 = R at hr
  rw [← ninf]
  pointwise
  rw [hr]
  exact select_after _ _ (by have := r.isLt; omega) (by have := s.isLt; omega) _ _

theorem att_apply128 (q : FVec Ideal S512x128 .bf16) (k v : Vec Ideal S128x128 .bf16) (r : Fin 512) (e : Fin 128) :
    (show EReal from att128 q k v (ix2 r e)) = soft (fun s : Fin 128 => (show EReal from scores128 q k (ix2 r s))) (fun s => v (ix2 s e)) := by
  unfold att128
  generalize scores128 q k = x
  unfold soft top
  rw [← ninf]
  pointwise [exps128]

theorem slice_0_128 (a b c d : Vec Ideal S128x128 .bf16) (k v : Vec Ideal S128x128 .bf16) (r e : Fin 128) :
    (show EReal from extractStridedSlice S128x128 ![0, 0] (att128 (cat a b c d) k v) slices_S512x128_o0_0_S128x128 (ix2 r e))
    = soft (fun s : Fin 128 => if r.val + 0 < s.val then ⊥ else (∑ f : Fin 128, a (ix2 r f) * k (ix2 s f)) * Ideal.ofBits .f32 0x3DB504F3#32)
      (fun s => v (ix2 s e)) := by
  have h := att_apply128 (cat a b c d) k v ⟨0 + r, by omega⟩ e
  have hs := scores_apply128 (cat a b c d) k ⟨0 + r, by omega⟩
  have hm : (0 + r.val) % 128 = r.val := by omega
  simp only [hm] at hs
  simp only [hs] at h
  have hq : ∀ f : Fin 128, cat a b c d (ix2 ⟨0 + r, by omega⟩ f) = a (ix2 r f) := fun f => by
    pointwise [cat]
  simp only [hq] at h
  refine Eq.trans ?_ h
  pointwise

theorem slice_1_128 (a b c d : Vec Ideal S128x128 .bf16) (k v : Vec Ideal S128x128 .bf16) (r e : Fin 128) :
    (show EReal from extractStridedSlice S128x128 ![128, 0] (att128 (cat a b c d) k v) slices_S512x128_o128_0_S128x128 (ix2 r e))
    = soft (fun s : Fin 128 => if r.val + 0 < s.val then ⊥ else (∑ f : Fin 128, b (ix2 r f) * k (ix2 s f)) * Ideal.ofBits .f32 0x3DB504F3#32)
      (fun s => v (ix2 s e)) := by
  have h := att_apply128 (cat a b c d) k v ⟨128 + r, by omega⟩ e
  have hs := scores_apply128 (cat a b c d) k ⟨128 + r, by omega⟩
  have hm : (128 + r.val) % 128 = r.val := by omega
  simp only [hm] at hs
  simp only [hs] at h
  have hq : ∀ f : Fin 128, cat a b c d (ix2 ⟨128 + r, by omega⟩ f) = b (ix2 r f) := fun f => by
    pointwise [cat]
  simp only [hq] at h
  refine Eq.trans ?_ h
  pointwise

theorem slice_2_128 (a b c d : Vec Ideal S128x128 .bf16) (k v : Vec Ideal S128x128 .bf16) (r e : Fin 128) :
    (show EReal from extractStridedSlice S128x128 ![256, 0] (att128 (cat a b c d) k v) slices_S512x128_o256_0_S128x128 (ix2 r e))
    = soft (fun s : Fin 128 => if r.val + 0 < s.val then ⊥ else (∑ f : Fin 128, c (ix2 r f) * k (ix2 s f)) * Ideal.ofBits .f32 0x3DB504F3#32)
      (fun s => v (ix2 s e)) := by
  have h := att_apply128 (cat a b c d) k v ⟨256 + r, by omega⟩ e
  have hs := scores_apply128 (cat a b c d) k ⟨256 + r, by omega⟩
  have hm : (256 + r.val) % 128 = r.val := by omega
  simp only [hm] at hs
  simp only [hs] at h
  have hq : ∀ f : Fin 128, cat a b c d (ix2 ⟨256 + r, by omega⟩ f) = c (ix2 r f) := fun f => by
    pointwise [cat]
    rw [dif_neg (by omega), dif_neg (by omega), dif_pos (by omega)]
    congr 2
    exact Fin.ext (by show 256 + r.val - 128 - 128 = r.val; omega)
  simp only [hq] at h
  refine Eq.trans ?_ h
  pointwise

theorem slice_3_128 (a b c d : Vec Ideal S128x128 .bf16) (k v : Vec Ideal S128x128 .bf16) (r e : Fin 128) :
    (show EReal from extractStridedSlice S128x128 ![384, 0] (att128 (cat a b c d) k v) slices_S512x128_o384_0_S128x128 (ix2 r e))
    = soft (fun s : Fin 128 => if r.val + 0 < s.val then ⊥ else (∑ f : Fin 128, d (ix2 r f) * k (ix2 s f)) * Ideal.ofBits .f32 0x3DB504F3#32)
      (fun s => v (ix2 s e)) := by
  have h := att_apply128 (cat a b c d) k v ⟨384 + r, by omega⟩ e
  have hs := scores_apply128 (cat a b c d) k ⟨384 + r, by omega⟩
  have hm : (384 + r.val) % 128 = r.val := by omega
  simp only [hm] at hs
  simp only [hs] at h
  have hq : ∀ f : Fin 128, cat a b c d (ix2 ⟨384 + r, by omega⟩ f) = d (ix2 r f) := fun f => by
    pointwise [cat]
    rw [dif_neg (by omega), dif_neg (by omega), dif_neg (by omega)]
    congr 2
    exact Fin.ext (by show 384 + r.val - 128 - 128 - 128 = r.val; omega)
  simp only [hq] at h
  refine Eq.trans ?_ h
  pointwise

/-- The query position of each row, where the block begins at position 128. -/
def rows256 : IVec S512x256 32 :=
  addi (select (andi (xori (cmpi .slt (remsi (iota .tc S512x256 32 [0] iota_S512x256_d0_w32) (broadcast S512x256 (Scalar.select (Scalar.cmpi .eq 128#32 0#32) 1#32 128#32))) (broadcast S512x256 0#32))
        (broadcastTo S512x256 (broadcast S512x256 (Scalar.cmpi .slt (Scalar.select (Scalar.cmpi .eq 128#32 0#32) 1#32 128#32) 0#32)) broadcasts_S512x256_S512x256))
        (cmpi .ne (remsi (iota .tc S512x256 32 [0] iota_S512x256_d0_w32) (broadcast S512x256 (Scalar.select (Scalar.cmpi .eq 128#32 0#32) 1#32 128#32))) (broadcast S512x256 0#32)))
      (addi (remsi (iota .tc S512x256 32 [0] iota_S512x256_d0_w32) (broadcast S512x256 (Scalar.select (Scalar.cmpi .eq 128#32 0#32) 1#32 128#32))) (broadcast S512x256 (Scalar.select (Scalar.cmpi .eq 128#32 0#32) 1#32 128#32)))
      (remsi (iota .tc S512x256 32 [0] iota_S512x256_d0_w32) (broadcast S512x256 (Scalar.select (Scalar.cmpi .eq 128#32 0#32) 1#32 128#32))))
    (broadcast S512x256 128#32)

/-- The masked scores. -/
def scores256 (q : FVec Ideal S512x128 .bf16) (k : Vec Ideal S256x128 .bf16) : FVec Ideal S512x256 .f32 :=
  select (cmpi .sgt (iota .tc S512x256 32 [1] iota_S512x256_d1_w32) rows256) (broadcast S512x256 (Scalar.ofBits .f32 0xFF800000#32))
    (mulf (matmul (φ₁ := .bf16) (φ₂ := .bf16) dot_S512x128_S256x128_S512x256_1_1_0_0_n_n none q k (constant S512x256 .f32 0x00000000#32)) (broadcast S512x256 (Scalar.ofBits .f32 0x3DB504F3#32)))

/-- Their exponentials, less the row's largest. -/
def exps256 (x : FVec Ideal S512x256 .f32) : FVec Ideal S512x256 .f32 :=
  exp (subf x (broadcastTo S512x256 (shapeCast S512x1 (multiReduction .maximumf [1] S512 x 0xFF800000#32 reduces_S512x256_S512 (.inl rfl) rfl) shapeCasts_S512_S512x1) broadcasts_S512x1_S512x256))

/-- The block's output. -/
def att256 (q : FVec Ideal S512x128 .bf16) (k v : Vec Ideal S256x128 .bf16) : FVec Ideal S512x128 .f32 :=
  matmul (φ₁ := .bf16) (φ₂ := .bf16) dot_S512x256_S256x128_S512x128_1_0_0_1_n_n none (truncf .bf16 (divf (exps256 (scores256 q k)) (broadcastTo S512x256
    (shapeCast S512x1 (multiReduction .add [1] S512 (exps256 (scores256 q k)) 0x00000000#32 reduces_S512x256_S512 (.inl rfl) rfl) shapeCasts_S512_S512x1)
      broadcasts_S512x1_S512x256)) bitsLt_bf16_f32) v (constant S512x128 .f32 0x00000000#32)

theorem rows_apply256 (r : Fin 512) (s : Fin 256) : rows256 (ix2 r s) = BitVec.ofNat 32 (r.val % 128 + 128) :=
  (by decide +kernel : ∀ r : Fin 512, rows256 (ix2 r (0 : Fin 256)) = BitVec.ofNat 32 (r.val % 128 + 128)) r

theorem scores_apply256 (q : FVec Ideal S512x128 .bf16) (k : Vec Ideal S256x128 .bf16) (r : Fin 512) (s : Fin 256) :
    (show EReal from scores256 q k (ix2 r s)) = if r.val % 128 + 128 < s.val then ⊥ else (∑ f : Fin 128, q (ix2 r f) * k (ix2 s f)) * Ideal.ofBits .f32 0x3DB504F3#32 := by
  have hr := rows_apply256 r s
  unfold scores256
  generalize rows256 = R at hr
  rw [← ninf]
  pointwise
  rw [hr]
  exact select_after _ _ (by have := r.isLt; omega) (by have := s.isLt; omega) _ _

theorem att_apply256 (q : FVec Ideal S512x128 .bf16) (k v : Vec Ideal S256x128 .bf16) (r : Fin 512) (e : Fin 128) :
    (show EReal from att256 q k v (ix2 r e)) = soft (fun s : Fin 256 => (show EReal from scores256 q k (ix2 r s))) (fun s => v (ix2 s e)) := by
  unfold att256
  generalize scores256 q k = x
  unfold soft top
  rw [← ninf]
  pointwise [exps256]

theorem slice_0_256 (a b c d : Vec Ideal S128x128 .bf16) (k v : Vec Ideal S256x128 .bf16) (r e : Fin 128) :
    (show EReal from extractStridedSlice S128x128 ![0, 0] (att256 (cat a b c d) k v) slices_S512x128_o0_0_S128x128 (ix2 r e))
    = soft (fun s : Fin 256 => if r.val + 128 < s.val then ⊥ else (∑ f : Fin 128, a (ix2 r f) * k (ix2 s f)) * Ideal.ofBits .f32 0x3DB504F3#32)
      (fun s => v (ix2 s e)) := by
  have h := att_apply256 (cat a b c d) k v ⟨0 + r, by omega⟩ e
  have hs := scores_apply256 (cat a b c d) k ⟨0 + r, by omega⟩
  have hm : (0 + r.val) % 128 = r.val := by omega
  simp only [hm] at hs
  simp only [hs] at h
  have hq : ∀ f : Fin 128, cat a b c d (ix2 ⟨0 + r, by omega⟩ f) = a (ix2 r f) := fun f => by
    pointwise [cat]
  simp only [hq] at h
  refine Eq.trans ?_ h
  pointwise

theorem slice_1_256 (a b c d : Vec Ideal S128x128 .bf16) (k v : Vec Ideal S256x128 .bf16) (r e : Fin 128) :
    (show EReal from extractStridedSlice S128x128 ![128, 0] (att256 (cat a b c d) k v) slices_S512x128_o128_0_S128x128 (ix2 r e))
    = soft (fun s : Fin 256 => if r.val + 128 < s.val then ⊥ else (∑ f : Fin 128, b (ix2 r f) * k (ix2 s f)) * Ideal.ofBits .f32 0x3DB504F3#32)
      (fun s => v (ix2 s e)) := by
  have h := att_apply256 (cat a b c d) k v ⟨128 + r, by omega⟩ e
  have hs := scores_apply256 (cat a b c d) k ⟨128 + r, by omega⟩
  have hm : (128 + r.val) % 128 = r.val := by omega
  simp only [hm] at hs
  simp only [hs] at h
  have hq : ∀ f : Fin 128, cat a b c d (ix2 ⟨128 + r, by omega⟩ f) = b (ix2 r f) := fun f => by
    pointwise [cat]
  simp only [hq] at h
  refine Eq.trans ?_ h
  pointwise

theorem slice_2_256 (a b c d : Vec Ideal S128x128 .bf16) (k v : Vec Ideal S256x128 .bf16) (r e : Fin 128) :
    (show EReal from extractStridedSlice S128x128 ![256, 0] (att256 (cat a b c d) k v) slices_S512x128_o256_0_S128x128 (ix2 r e))
    = soft (fun s : Fin 256 => if r.val + 128 < s.val then ⊥ else (∑ f : Fin 128, c (ix2 r f) * k (ix2 s f)) * Ideal.ofBits .f32 0x3DB504F3#32)
      (fun s => v (ix2 s e)) := by
  have h := att_apply256 (cat a b c d) k v ⟨256 + r, by omega⟩ e
  have hs := scores_apply256 (cat a b c d) k ⟨256 + r, by omega⟩
  have hm : (256 + r.val) % 128 = r.val := by omega
  simp only [hm] at hs
  simp only [hs] at h
  have hq : ∀ f : Fin 128, cat a b c d (ix2 ⟨256 + r, by omega⟩ f) = c (ix2 r f) := fun f => by
    pointwise [cat]
    rw [dif_neg (by omega), dif_neg (by omega), dif_pos (by omega)]
    congr 2
    exact Fin.ext (by show 256 + r.val - 128 - 128 = r.val; omega)
  simp only [hq] at h
  refine Eq.trans ?_ h
  pointwise

theorem slice_3_256 (a b c d : Vec Ideal S128x128 .bf16) (k v : Vec Ideal S256x128 .bf16) (r e : Fin 128) :
    (show EReal from extractStridedSlice S128x128 ![384, 0] (att256 (cat a b c d) k v) slices_S512x128_o384_0_S128x128 (ix2 r e))
    = soft (fun s : Fin 256 => if r.val + 128 < s.val then ⊥ else (∑ f : Fin 128, d (ix2 r f) * k (ix2 s f)) * Ideal.ofBits .f32 0x3DB504F3#32)
      (fun s => v (ix2 s e)) := by
  have h := att_apply256 (cat a b c d) k v ⟨384 + r, by omega⟩ e
  have hs := scores_apply256 (cat a b c d) k ⟨384 + r, by omega⟩
  have hm : (384 + r.val) % 128 = r.val := by omega
  simp only [hm] at hs
  simp only [hs] at h
  have hq : ∀ f : Fin 128, cat a b c d (ix2 ⟨384 + r, by omega⟩ f) = d (ix2 r f) := fun f => by
    pointwise [cat]
    rw [dif_neg (by omega), dif_neg (by omega), dif_neg (by omega)]
    congr 2
    exact Fin.ext (by show 384 + r.val - 128 - 128 - 128 = r.val; omega)
  simp only [hq] at h
  refine Eq.trans ?_ h
  pointwise

/-- The query position of each row, where the block begins at position 256. -/
def rows384 : IVec S512x384 32 :=
  addi (select (andi (xori (cmpi .slt (remsi (iota .tc S512x384 32 [0] iota_S512x384_d0_w32) (broadcast S512x384 (Scalar.select (Scalar.cmpi .eq 128#32 0#32) 1#32 128#32))) (broadcast S512x384 0#32))
        (broadcastTo S512x384 (broadcast S512x384 (Scalar.cmpi .slt (Scalar.select (Scalar.cmpi .eq 128#32 0#32) 1#32 128#32) 0#32)) broadcasts_S512x384_S512x384))
        (cmpi .ne (remsi (iota .tc S512x384 32 [0] iota_S512x384_d0_w32) (broadcast S512x384 (Scalar.select (Scalar.cmpi .eq 128#32 0#32) 1#32 128#32))) (broadcast S512x384 0#32)))
      (addi (remsi (iota .tc S512x384 32 [0] iota_S512x384_d0_w32) (broadcast S512x384 (Scalar.select (Scalar.cmpi .eq 128#32 0#32) 1#32 128#32))) (broadcast S512x384 (Scalar.select (Scalar.cmpi .eq 128#32 0#32) 1#32 128#32)))
      (remsi (iota .tc S512x384 32 [0] iota_S512x384_d0_w32) (broadcast S512x384 (Scalar.select (Scalar.cmpi .eq 128#32 0#32) 1#32 128#32))))
    (broadcast S512x384 256#32)

/-- The masked scores. -/
def scores384 (q : FVec Ideal S512x128 .bf16) (k : Vec Ideal S384x128 .bf16) : FVec Ideal S512x384 .f32 :=
  select (cmpi .sgt (iota .tc S512x384 32 [1] iota_S512x384_d1_w32) rows384) (broadcast S512x384 (Scalar.ofBits .f32 0xFF800000#32))
    (mulf (matmul (φ₁ := .bf16) (φ₂ := .bf16) dot_S512x128_S384x128_S512x384_1_1_0_0_n_n none q k (constant S512x384 .f32 0x00000000#32)) (broadcast S512x384 (Scalar.ofBits .f32 0x3DB504F3#32)))

/-- Their exponentials, less the row's largest. -/
def exps384 (x : FVec Ideal S512x384 .f32) : FVec Ideal S512x384 .f32 :=
  exp (subf x (broadcastTo S512x384 (shapeCast S512x1 (multiReduction .maximumf [1] S512 x 0xFF800000#32 reduces_S512x384_S512 (.inl rfl) rfl) shapeCasts_S512_S512x1) broadcasts_S512x1_S512x384))

/-- The block's output. -/
def att384 (q : FVec Ideal S512x128 .bf16) (k v : Vec Ideal S384x128 .bf16) : FVec Ideal S512x128 .f32 :=
  matmul (φ₁ := .bf16) (φ₂ := .bf16) dot_S512x384_S384x128_S512x128_1_0_0_1_n_n none (truncf .bf16 (divf (exps384 (scores384 q k)) (broadcastTo S512x384
    (shapeCast S512x1 (multiReduction .add [1] S512 (exps384 (scores384 q k)) 0x00000000#32 reduces_S512x384_S512 (.inl rfl) rfl) shapeCasts_S512_S512x1)
      broadcasts_S512x1_S512x384)) bitsLt_bf16_f32) v (constant S512x128 .f32 0x00000000#32)

theorem rows_apply384 (r : Fin 512) (s : Fin 384) : rows384 (ix2 r s) = BitVec.ofNat 32 (r.val % 128 + 256) :=
  (by decide +kernel : ∀ r : Fin 512, rows384 (ix2 r (0 : Fin 384)) = BitVec.ofNat 32 (r.val % 128 + 256)) r

theorem scores_apply384 (q : FVec Ideal S512x128 .bf16) (k : Vec Ideal S384x128 .bf16) (r : Fin 512) (s : Fin 384) :
    (show EReal from scores384 q k (ix2 r s)) = if r.val % 128 + 256 < s.val then ⊥ else (∑ f : Fin 128, q (ix2 r f) * k (ix2 s f)) * Ideal.ofBits .f32 0x3DB504F3#32 := by
  have hr := rows_apply384 r s
  unfold scores384
  generalize rows384 = R at hr
  rw [← ninf]
  pointwise
  rw [hr]
  exact select_after _ _ (by have := r.isLt; omega) (by have := s.isLt; omega) _ _

theorem att_apply384 (q : FVec Ideal S512x128 .bf16) (k v : Vec Ideal S384x128 .bf16) (r : Fin 512) (e : Fin 128) :
    (show EReal from att384 q k v (ix2 r e)) = soft (fun s : Fin 384 => (show EReal from scores384 q k (ix2 r s))) (fun s => v (ix2 s e)) := by
  unfold att384
  generalize scores384 q k = x
  unfold soft top
  rw [← ninf]
  pointwise [exps384]

theorem slice_0_384 (a b c d : Vec Ideal S128x128 .bf16) (k v : Vec Ideal S384x128 .bf16) (r e : Fin 128) :
    (show EReal from extractStridedSlice S128x128 ![0, 0] (att384 (cat a b c d) k v) slices_S512x128_o0_0_S128x128 (ix2 r e))
    = soft (fun s : Fin 384 => if r.val + 256 < s.val then ⊥ else (∑ f : Fin 128, a (ix2 r f) * k (ix2 s f)) * Ideal.ofBits .f32 0x3DB504F3#32)
      (fun s => v (ix2 s e)) := by
  have h := att_apply384 (cat a b c d) k v ⟨0 + r, by omega⟩ e
  have hs := scores_apply384 (cat a b c d) k ⟨0 + r, by omega⟩
  have hm : (0 + r.val) % 128 = r.val := by omega
  simp only [hm] at hs
  simp only [hs] at h
  have hq : ∀ f : Fin 128, cat a b c d (ix2 ⟨0 + r, by omega⟩ f) = a (ix2 r f) := fun f => by
    pointwise [cat]
  simp only [hq] at h
  refine Eq.trans ?_ h
  pointwise

theorem slice_1_384 (a b c d : Vec Ideal S128x128 .bf16) (k v : Vec Ideal S384x128 .bf16) (r e : Fin 128) :
    (show EReal from extractStridedSlice S128x128 ![128, 0] (att384 (cat a b c d) k v) slices_S512x128_o128_0_S128x128 (ix2 r e))
    = soft (fun s : Fin 384 => if r.val + 256 < s.val then ⊥ else (∑ f : Fin 128, b (ix2 r f) * k (ix2 s f)) * Ideal.ofBits .f32 0x3DB504F3#32)
      (fun s => v (ix2 s e)) := by
  have h := att_apply384 (cat a b c d) k v ⟨128 + r, by omega⟩ e
  have hs := scores_apply384 (cat a b c d) k ⟨128 + r, by omega⟩
  have hm : (128 + r.val) % 128 = r.val := by omega
  simp only [hm] at hs
  simp only [hs] at h
  have hq : ∀ f : Fin 128, cat a b c d (ix2 ⟨128 + r, by omega⟩ f) = b (ix2 r f) := fun f => by
    pointwise [cat]
  simp only [hq] at h
  refine Eq.trans ?_ h
  pointwise

theorem slice_2_384 (a b c d : Vec Ideal S128x128 .bf16) (k v : Vec Ideal S384x128 .bf16) (r e : Fin 128) :
    (show EReal from extractStridedSlice S128x128 ![256, 0] (att384 (cat a b c d) k v) slices_S512x128_o256_0_S128x128 (ix2 r e))
    = soft (fun s : Fin 384 => if r.val + 256 < s.val then ⊥ else (∑ f : Fin 128, c (ix2 r f) * k (ix2 s f)) * Ideal.ofBits .f32 0x3DB504F3#32)
      (fun s => v (ix2 s e)) := by
  have h := att_apply384 (cat a b c d) k v ⟨256 + r, by omega⟩ e
  have hs := scores_apply384 (cat a b c d) k ⟨256 + r, by omega⟩
  have hm : (256 + r.val) % 128 = r.val := by omega
  simp only [hm] at hs
  simp only [hs] at h
  have hq : ∀ f : Fin 128, cat a b c d (ix2 ⟨256 + r, by omega⟩ f) = c (ix2 r f) := fun f => by
    pointwise [cat]
    rw [dif_neg (by omega), dif_neg (by omega), dif_pos (by omega)]
    congr 2
    exact Fin.ext (by show 256 + r.val - 128 - 128 = r.val; omega)
  simp only [hq] at h
  refine Eq.trans ?_ h
  pointwise

theorem slice_3_384 (a b c d : Vec Ideal S128x128 .bf16) (k v : Vec Ideal S384x128 .bf16) (r e : Fin 128) :
    (show EReal from extractStridedSlice S128x128 ![384, 0] (att384 (cat a b c d) k v) slices_S512x128_o384_0_S128x128 (ix2 r e))
    = soft (fun s : Fin 384 => if r.val + 256 < s.val then ⊥ else (∑ f : Fin 128, d (ix2 r f) * k (ix2 s f)) * Ideal.ofBits .f32 0x3DB504F3#32)
      (fun s => v (ix2 s e)) := by
  have h := att_apply384 (cat a b c d) k v ⟨384 + r, by omega⟩ e
  have hs := scores_apply384 (cat a b c d) k ⟨384 + r, by omega⟩
  have hm : (384 + r.val) % 128 = r.val := by omega
  simp only [hm] at hs
  simp only [hs] at h
  have hq : ∀ f : Fin 128, cat a b c d (ix2 ⟨384 + r, by omega⟩ f) = d (ix2 r f) := fun f => by
    pointwise [cat]
    rw [dif_neg (by omega), dif_neg (by omega), dif_neg (by omega)]
    congr 2
    exact Fin.ext (by show 384 + r.val - 128 - 128 - 128 = r.val; omega)
  simp only [hq] at h
  refine Eq.trans ?_ h
  pointwise

end Cert.AttnVal

end
-- ==== Proof.AttnHeads.lean ====
module

public import proofs.«01_k».proof.Proof.AttnBlock
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AttnVal
open Cert.AttnIdeal Cert.AttnIdeal.Gen

/-- The score of a query row with the key row `s` of its sequence: their inner product, scaled; -∞ where the key comes
    after the query. -/
def score {n : ℕ} (Q : Fin 128 → EReal) (K : Fin n → Fin 128 → EReal) (p : ℕ) (s : Fin n) : EReal :=
  if p < s.val then ⊥ else (∑ f : Fin 128, Q f * K s f) * Ideal.ofBits .f32 0x3DB504F3#32

theorem real_mul {a b : EReal} (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩

theorem real_sum {n : ℕ} (f : Fin n → EReal) (h : ∀ k, ∃ r : ℝ, f k = r) : ∃ r : ℝ, ∑ k, f k = r :=
  Finset.sum_induction f (fun x => ∃ r : ℝ, x = r)
    (fun a b ha hb => by obtain ⟨r, rfl⟩ := ha; obtain ⟨s, rfl⟩ := hb; exact ⟨r + s, (EReal.coe_add r s).symm⟩)
    ⟨0, rfl⟩ fun k _ => h k

/-- The score's scale is a number. -/
theorem real_scale : ∃ r : ℝ, Ideal.ofBits .f32 0x3DB504F3#32 = r := by
  simp only [Ideal.ofBits, Ideal.ieee]
  exact ⟨_, rfl⟩

theorem real_score {n : ℕ} (Q : Fin 128 → EReal) (K : Fin n → Fin 128 → EReal) (hQ : ∀ f, ∃ r : ℝ, Q f = r)
    (hK : ∀ s f, ∃ r : ℝ, K s f = r) (s : Fin n) :
    ∃ r : ℝ, (∑ f : Fin 128, Q f * K s f) * Ideal.ofBits .f32 0x3DB504F3#32 = r :=
  real_mul (real_sum _ fun f => real_mul (hQ f) (hK s f)) real_scale

/-- The attention of one query row over the first `n` of `N` keys is that over all, where `n` reaches past the query. -/
theorem soft_score {n N : ℕ} (hn : n ≤ N) (p : ℕ) (hp : p < n) (Q : Fin 128 → EReal) (K : Fin N → Fin 128 → EReal) (v : Fin N → EReal)
    (hQ : ∀ f, ∃ r : ℝ, Q f = r) (hK : ∀ s f, ∃ r : ℝ, K s f = r) :
    soft (score Q (fun s : Fin n => K (Fin.castLE hn s)) p) (fun s => v (Fin.castLE hn s)) = soft (score Q K p) v := by
  obtain ⟨r0, h0⟩ := real_score Q K hQ hK ⟨0, by omega⟩
  refine soft_prefix hn (score Q K p) v (fun s hs => if_pos (by omega)) ⟨0, by omega⟩ r0 ((if_neg (Nat.not_lt_zero p)).trans h0) fun s => ?_
  unfold score
  split
  · exact bot_ne_top
  · obtain ⟨r, h⟩ := real_score Q K hQ hK s
    rw [h]; exact EReal.coe_ne_top r

/-- The attention of the query row `R` at the column `l` of the group: head `l / 128`, the keys and values of the row's
    own sequence. -/
def headOut (Q : Vec Ideal S1152x512 .bf16) (K V : Vec Ideal S1152x128 .bf16) (R : Fin 1152) (l : Fin 512) : EReal :=
  soft (score (n := 384) (fun f => Q (ix2 R ⟨l.val / 128 * 128 + f, by omega⟩))
      (fun s f => K (ix2 ⟨R.val / 384 * 384 + s, by omega⟩ f)) (R.val % 384))
    (fun s => V (ix2 ⟨R.val / 384 * 384 + s, by omega⟩ ⟨l.val % 128, by omega⟩))

theorem ldQ (Q : Vec Ideal S1152x512 .bf16) (ro co : ℕ) (h : ∀ a : Fin 2, ![ro, co] a + ![128, 128] a ≤ S1152x512.size a) (r f : Fin 128) (R : Fin 1152) (L : Fin 512)
    (hR : R.val = ro + r) (hL : L.val = co + f) :
    (show EReal from View.ld Q (Rect.unit ![ro, co] ![128, 128] h) (ix2 r f)) = Q (ix2 R L) := by
  refine congrArg Q (funext fun a => Fin.ext ?_)
  fin_cases a
  · show ro + 1 * r.val = R.val; omega
  · show co + 1 * f.val = L.val; omega

theorem ldK_128 (K : Vec Ideal S1152x128 .bf16) (ro : ℕ) (h : ∀ a : Fin 2, ![ro, 0] a + ![128, 128] a ≤ S1152x128.size a) (s : Fin 128) (f : Fin 128) (R : Fin 1152)
    (hR : R.val = ro + s) :
    (show EReal from View.ld K (Rect.unit ![ro, 0] ![128, 128] h) (ix2 s f)) = K (ix2 R f) := by
  refine congrArg K (funext fun a => Fin.ext ?_)
  fin_cases a
  · show ro + 1 * s.val = R.val; omega
  · show 0 + 1 * f.val = f.val; omega

theorem head_0_128 (Q : Vec Ideal S1152x512 .bf16) (K V : Vec Ideal S1152x128 .bf16) (hQ : ∀ i, ∃ r : ℝ, Q i = r) (hK : ∀ i, ∃ r : ℝ, K i = r)
    (ro ko : ℕ) (hro : ro = ko + 0) (hko : ko % 384 = 0)
    (ha : ∀ a : Fin 2, ![ro, 0] a + ![128, 128] a ≤ S1152x512.size a) (hb : ∀ a : Fin 2, ![ro, 128] a + ![128, 128] a ≤ S1152x512.size a)
    (hc : ∀ a : Fin 2, ![ro, 256] a + ![128, 128] a ≤ S1152x512.size a) (hd : ∀ a : Fin 2, ![ro, 384] a + ![128, 128] a ≤ S1152x512.size a)
    (hk : ∀ a : Fin 2, ![ko, 0] a + ![128, 128] a ≤ S1152x128.size a)
    (x : S128x128.Idx) (y : S1152x512.Idx) (h0 : (y 0).val = ro + (x 0).val) (h1 : (y 1).val = 0 + (x 1).val) :
    (show EReal from extractStridedSlice S128x128 ![0, 0] (att128
        (cat (View.ld Q (Rect.unit ![ro, 0] ![128, 128] ha)) (View.ld Q (Rect.unit ![ro, 128] ![128, 128] hb))
          (View.ld Q (Rect.unit ![ro, 256] ![128, 128] hc)) (View.ld Q (Rect.unit ![ro, 384] ![128, 128] hd)))
        (View.ld K (Rect.unit ![ko, 0] ![128, 128] hk)) (View.ld V (Rect.unit ![ko, 0] ![128, 128] hk))) slices_S512x128_o0_0_S128x128 x)
    = headOut Q K V (y 0) (y 1) := by
  obtain ⟨r, e, rfl⟩ : ∃ r e : Fin 128, x = ix2 r e := ⟨x 0, x 1, by funext a; fin_cases a <;> rfl⟩
  obtain ⟨R, l, rfl⟩ : ∃ (R : Fin 1152) (l : Fin 512), y = ix2 R l := ⟨y 0, y 1, by funext a; fin_cases a <;> rfl⟩
  replace h0 : R.val = ro + r.val := h0
  replace h1 : l.val = 0 + e.val := h1
  show _ = headOut Q K V R l
  have hp : R.val % 384 = r.val + 0 := by omega
  have hs : R.val / 384 * 384 = ko := by omega
  have hl : l.val / 128 * 128 = 0 := by omega
  have he : (⟨l.val % 128, by omega⟩ : Fin 128) = e := Fin.ext (by show l.val % 128 = e.val; omega)
  refine (slice_0_128 _ _ _ _ _ _ r e).trans ?_
  refine Eq.trans ?_ (soft_score (n := 128) (N := 384) (by omega) (R.val % 384) (by omega) _ _ _ (fun f => hQ _) (fun s f => hK _))
  unfold soft score
  simp only [hp]
  have kq : ∀ f : Fin 128, (show EReal from View.ld Q (Rect.unit ![ro, 0] ![128, 128] ha) (ix2 r f)) = Q (ix2 R ⟨l.val / 128 * 128 + f, by omega⟩) :=
    fun f => ldQ Q ro 0 ha r f _ _ h0 (by show l.val / 128 * 128 + f.val = _; omega)
  have kk : ∀ (s : Fin 128) (f : Fin 128), (show EReal from View.ld K (Rect.unit ![ko, 0] ![128, 128] hk) (ix2 s f))
      = K (ix2 ⟨R.val / 384 * 384 + (Fin.castLE (by omega : 128 ≤ 384) s).val, by have := s.isLt; simp only [Fin.val_castLE]; omega⟩ f) :=
    fun s f => ldK_128 K ko hk s f _ (by show R.val / 384 * 384 + s.val = _; omega)
  have kv : ∀ s : Fin 128, (show EReal from View.ld V (Rect.unit ![ko, 0] ![128, 128] hk) (ix2 s e))
      = V (ix2 ⟨R.val / 384 * 384 + (Fin.castLE (by omega : 128 ≤ 384) s).val, by have := s.isLt; simp only [Fin.val_castLE]; omega⟩ ⟨l.val % 128, by omega⟩) :=
    fun s => by rw [he]; exact ldK_128 V ko hk s e _ (by show R.val / 384 * 384 + s.val = _; omega)
  simp only [kq, kk, kv, Fin.val_castLE]

theorem head_1_128 (Q : Vec Ideal S1152x512 .bf16) (K V : Vec Ideal S1152x128 .bf16) (hQ : ∀ i, ∃ r : ℝ, Q i = r) (hK : ∀ i, ∃ r : ℝ, K i = r)
    (ro ko : ℕ) (hro : ro = ko + 0) (hko : ko % 384 = 0)
    (ha : ∀ a : Fin 2, ![ro, 0] a + ![128, 128] a ≤ S1152x512.size a) (hb : ∀ a : Fin 2, ![ro, 128] a + ![128, 128] a ≤ S1152x512.size a)
    (hc : ∀ a : Fin 2, ![ro, 256] a + ![128, 128] a ≤ S1152x512.size a) (hd : ∀ a : Fin 2, ![ro, 384] a + ![128, 128] a ≤ S1152x512.size a)
    (hk : ∀ a : Fin 2, ![ko, 0] a + ![128, 128] a ≤ S1152x128.size a)
    (x : S128x128.Idx) (y : S1152x512.Idx) (h0 : (y 0).val = ro + (x 0).val) (h1 : (y 1).val = 128 + (x 1).val) :
    (show EReal from extractStridedSlice S128x128 ![128, 0] (att128
        (cat (View.ld Q (Rect.unit ![ro, 0] ![128, 128] ha)) (View.ld Q (Rect.unit ![ro, 128] ![128, 128] hb))
          (View.ld Q (Rect.unit ![ro, 256] ![128, 128] hc)) (View.ld Q (Rect.unit ![ro, 384] ![128, 128] hd)))
        (View.ld K (Rect.unit ![ko, 0] ![128, 128] hk)) (View.ld V (Rect.unit ![ko, 0] ![128, 128] hk))) slices_S512x128_o128_0_S128x128 x)
    = headOut Q K V (y 0) (y 1) := by
  obtain ⟨r, e, rfl⟩ : ∃ r e : Fin 128, x = ix2 r e := ⟨x 0, x 1, by funext a; fin_cases a <;> rfl⟩
  obtain ⟨R, l, rfl⟩ : ∃ (R : Fin 1152) (l : Fin 512), y = ix2 R l := ⟨y 0, y 1, by funext a; fin_cases a <;> rfl⟩
  replace h0 : R.val = ro + r.val := h0
  replace h1 : l.val = 128 + e.val := h1
  show _ = headOut Q K V R l
  have hp : R.val % 384 = r.val + 0 := by omega
  have hs : R.val / 384 * 384 = ko := by omega
  have hl : l.val / 128 * 128 = 128 := by omega
  have he : (⟨l.val % 128, by omega⟩ : Fin 128) = e := Fin.ext (by show l.val % 128 = e.val; omega)
  refine (slice_1_128 _ _ _ _ _ _ r e).trans ?_
  refine Eq.trans ?_ (soft_score (n := 128) (N := 384) (by omega) (R.val % 384) (by omega) _ _ _ (fun f => hQ _) (fun s f => hK _))
  unfold soft score
  simp only [hp]
  have kq : ∀ f : Fin 128, (show EReal from View.ld Q (Rect.unit ![ro, 128] ![128, 128] hb) (ix2 r f)) = Q (ix2 R ⟨l.val / 128 * 128 + f, by omega⟩) :=
    fun f => ldQ Q ro 128 hb r f _ _ h0 (by show l.val / 128 * 128 + f.val = _; omega)
  have kk : ∀ (s : Fin 128) (f : Fin 128), (show EReal from View.ld K (Rect.unit ![ko, 0] ![128, 128] hk) (ix2 s f))
      = K (ix2 ⟨R.val / 384 * 384 + (Fin.castLE (by omega : 128 ≤ 384) s).val, by have := s.isLt; simp only [Fin.val_castLE]; omega⟩ f) :=
    fun s f => ldK_128 K ko hk s f _ (by show R.val / 384 * 384 + s.val = _; omega)
  have kv : ∀ s : Fin 128, (show EReal from View.ld V (Rect.unit ![ko, 0] ![128, 128] hk) (ix2 s e))
      = V (ix2 ⟨R.val / 384 * 384 + (Fin.castLE (by omega : 128 ≤ 384) s).val, by have := s.isLt; simp only [Fin.val_castLE]; omega⟩ ⟨l.val % 128, by omega⟩) :=
    fun s => by rw [he]; exact ldK_128 V ko hk s e _ (by show R.val / 384 * 384 + s.val = _; omega)
  simp only [kq, kk, kv, Fin.val_castLE]

theorem head_2_128 (Q : Vec Ideal S1152x512 .bf16) (K V : Vec Ideal S1152x128 .bf16) (hQ : ∀ i, ∃ r : ℝ, Q i = r) (hK : ∀ i, ∃ r : ℝ, K i = r)
    (ro ko : ℕ) (hro : ro = ko + 0) (hko : ko % 384 = 0)
    (ha : ∀ a : Fin 2, ![ro, 0] a + ![128, 128] a ≤ S1152x512.size a) (hb : ∀ a : Fin 2, ![ro, 128] a + ![128, 128] a ≤ S1152x512.size a)
    (hc : ∀ a : Fin 2, ![ro, 256] a + ![128, 128] a ≤ S1152x512.size a) (hd : ∀ a : Fin 2, ![ro, 384] a + ![128, 128] a ≤ S1152x512.size a)
    (hk : ∀ a : Fin 2, ![ko, 0] a + ![128, 128] a ≤ S1152x128.size a)
    (x : S128x128.Idx) (y : S1152x512.Idx) (h0 : (y 0).val = ro + (x 0).val) (h1 : (y 1).val = 256 + (x 1).val) :
    (show EReal from extractStridedSlice S128x128 ![256, 0] (att128
        (cat (View.ld Q (Rect.unit ![ro, 0] ![128, 128] ha)) (View.ld Q (Rect.unit ![ro, 128] ![128, 128] hb))
          (View.ld Q (Rect.unit ![ro, 256] ![128, 128] hc)) (View.ld Q (Rect.unit ![ro, 384] ![128, 128] hd)))
        (View.ld K (Rect.unit ![ko, 0] ![128, 128] hk)) (View.ld V (Rect.unit ![ko, 0] ![128, 128] hk))) slices_S512x128_o256_0_S128x128 x)
    = headOut Q K V (y 0) (y 1) := by
  obtain ⟨r, e, rfl⟩ : ∃ r e : Fin 128, x = ix2 r e := ⟨x 0, x 1, by funext a; fin_cases a <;> rfl⟩
  obtain ⟨R, l, rfl⟩ : ∃ (R : Fin 1152) (l : Fin 512), y = ix2 R l := ⟨y 0, y 1, by funext a; fin_cases a <;> rfl⟩
  replace h0 : R.val = ro + r.val := h0
  replace h1 : l.val = 256 + e.val := h1
  show _ = headOut Q K V R l
  have hp : R.val % 384 = r.val + 0 := by omega
  have hs : R.val / 384 * 384 = ko := by omega
  have hl : l.val / 128 * 128 = 256 := by omega
  have he : (⟨l.val % 128, by omega⟩ : Fin 128) = e := Fin.ext (by show l.val % 128 = e.val; omega)
  refine (slice_2_128 _ _ _ _ _ _ r e).trans ?_
  refine Eq.trans ?_ (soft_score (n := 128) (N := 384) (by omega) (R.val % 384) (by omega) _ _ _ (fun f => hQ _) (fun s f => hK _))
  unfold soft score
  simp only [hp]
  have kq : ∀ f : Fin 128, (show EReal from View.ld Q (Rect.unit ![ro, 256] ![128, 128] hc) (ix2 r f)) = Q (ix2 R ⟨l.val / 128 * 128 + f, by omega⟩) :=
    fun f => ldQ Q ro 256 hc r f _ _ h0 (by show l.val / 128 * 128 + f.val = _; omega)
  have kk : ∀ (s : Fin 128) (f : Fin 128), (show EReal from View.ld K (Rect.unit ![ko, 0] ![128, 128] hk) (ix2 s f))
      = K (ix2 ⟨R.val / 384 * 384 + (Fin.castLE (by omega : 128 ≤ 384) s).val, by have := s.isLt; simp only [Fin.val_castLE]; omega⟩ f) :=
    fun s f => ldK_128 K ko hk s f _ (by show R.val / 384 * 384 + s.val = _; omega)
  have kv : ∀ s : Fin 128, (show EReal from View.ld V (Rect.unit ![ko, 0] ![128, 128] hk) (ix2 s e))
      = V (ix2 ⟨R.val / 384 * 384 + (Fin.castLE (by omega : 128 ≤ 384) s).val, by have := s.isLt; simp only [Fin.val_castLE]; omega⟩ ⟨l.val % 128, by omega⟩) :=
    fun s => by rw [he]; exact ldK_128 V ko hk s e _ (by show R.val / 384 * 384 + s.val = _; omega)
  simp only [kq, kk, kv, Fin.val_castLE]

theorem head_3_128 (Q : Vec Ideal S1152x512 .bf16) (K V : Vec Ideal S1152x128 .bf16) (hQ : ∀ i, ∃ r : ℝ, Q i = r) (hK : ∀ i, ∃ r : ℝ, K i = r)
    (ro ko : ℕ) (hro : ro = ko + 0) (hko : ko % 384 = 0)
    (ha : ∀ a : Fin 2, ![ro, 0] a + ![128, 128] a ≤ S1152x512.size a) (hb : ∀ a : Fin 2, ![ro, 128] a + ![128, 128] a ≤ S1152x512.size a)
    (hc : ∀ a : Fin 2, ![ro, 256] a + ![128, 128] a ≤ S1152x512.size a) (hd : ∀ a : Fin 2, ![ro, 384] a + ![128, 128] a ≤ S1152x512.size a)
    (hk : ∀ a : Fin 2, ![ko, 0] a + ![128, 128] a ≤ S1152x128.size a)
    (x : S128x128.Idx) (y : S1152x512.Idx) (h0 : (y 0).val = ro + (x 0).val) (h1 : (y 1).val = 384 + (x 1).val) :
    (show EReal from extractStridedSlice S128x128 ![384, 0] (att128
        (cat (View.ld Q (Rect.unit ![ro, 0] ![128, 128] ha)) (View.ld Q (Rect.unit ![ro, 128] ![128, 128] hb))
          (View.ld Q (Rect.unit ![ro, 256] ![128, 128] hc)) (View.ld Q (Rect.unit ![ro, 384] ![128, 128] hd)))
        (View.ld K (Rect.unit ![ko, 0] ![128, 128] hk)) (View.ld V (Rect.unit ![ko, 0] ![128, 128] hk))) slices_S512x128_o384_0_S128x128 x)
    = headOut Q K V (y 0) (y 1) := by
  obtain ⟨r, e, rfl⟩ : ∃ r e : Fin 128, x = ix2 r e := ⟨x 0, x 1, by funext a; fin_cases a <;> rfl⟩
  obtain ⟨R, l, rfl⟩ : ∃ (R : Fin 1152) (l : Fin 512), y = ix2 R l := ⟨y 0, y 1, by funext a; fin_cases a <;> rfl⟩
  replace h0 : R.val = ro + r.val := h0
  replace h1 : l.val = 384 + e.val := h1
  show _ = headOut Q K V R l
  have hp : R.val % 384 = r.val + 0 := by omega
  have hs : R.val / 384 * 384 = ko := by omega
  have hl : l.val / 128 * 128 = 384 := by omega
  have he : (⟨l.val % 128, by omega⟩ : Fin 128) = e := Fin.ext (by show l.val % 128 = e.val; omega)
  refine (slice_3_128 _ _ _ _ _ _ r e).trans ?_
  refine Eq.trans ?_ (soft_score (n := 128) (N := 384) (by omega) (R.val % 384) (by omega) _ _ _ (fun f => hQ _) (fun s f => hK _))
  unfold soft score
  simp only [hp]
  have kq : ∀ f : Fin 128, (show EReal from View.ld Q (Rect.unit ![ro, 384] ![128, 128] hd) (ix2 r f)) = Q (ix2 R ⟨l.val / 128 * 128 + f, by omega⟩) :=
    fun f => ldQ Q ro 384 hd r f _ _ h0 (by show l.val / 128 * 128 + f.val = _; omega)
  have kk : ∀ (s : Fin 128) (f : Fin 128), (show EReal from View.ld K (Rect.unit ![ko, 0] ![128, 128] hk) (ix2 s f))
      = K (ix2 ⟨R.val / 384 * 384 + (Fin.castLE (by omega : 128 ≤ 384) s).val, by have := s.isLt; simp only [Fin.val_castLE]; omega⟩ f) :=
    fun s f => ldK_128 K ko hk s f _ (by show R.val / 384 * 384 + s.val = _; omega)
  have kv : ∀ s : Fin 128, (show EReal from View.ld V (Rect.unit ![ko, 0] ![128, 128] hk) (ix2 s e))
      = V (ix2 ⟨R.val / 384 * 384 + (Fin.castLE (by omega : 128 ≤ 384) s).val, by have := s.isLt; simp only [Fin.val_castLE]; omega⟩ ⟨l.val % 128, by omega⟩) :=
    fun s => by rw [he]; exact ldK_128 V ko hk s e _ (by show R.val / 384 * 384 + s.val = _; omega)
  simp only [kq, kk, kv, Fin.val_castLE]

theorem ldK_256 (K : Vec Ideal S1152x128 .bf16) (ro : ℕ) (h : ∀ a : Fin 2, ![ro, 0] a + ![256, 128] a ≤ S1152x128.size a) (s : Fin 256) (f : Fin 128) (R : Fin 1152)
    (hR : R.val = ro + s) :
    (show EReal from View.ld K (Rect.unit ![ro, 0] ![256, 128] h) (ix2 s f)) = K (ix2 R f) := by
  refine congrArg K (funext fun a => Fin.ext ?_)
  fin_cases a
  · show ro + 1 * s.val = R.val; omega
  · show 0 + 1 * f.val = f.val; omega

theorem head_0_256 (Q : Vec Ideal S1152x512 .bf16) (K V : Vec Ideal S1152x128 .bf16) (hQ : ∀ i, ∃ r : ℝ, Q i = r) (hK : ∀ i, ∃ r : ℝ, K i = r)
    (ro ko : ℕ) (hro : ro = ko + 128) (hko : ko % 384 = 0)
    (ha : ∀ a : Fin 2, ![ro, 0] a + ![128, 128] a ≤ S1152x512.size a) (hb : ∀ a : Fin 2, ![ro, 128] a + ![128, 128] a ≤ S1152x512.size a)
    (hc : ∀ a : Fin 2, ![ro, 256] a + ![128, 128] a ≤ S1152x512.size a) (hd : ∀ a : Fin 2, ![ro, 384] a + ![128, 128] a ≤ S1152x512.size a)
    (hk : ∀ a : Fin 2, ![ko, 0] a + ![256, 128] a ≤ S1152x128.size a)
    (x : S128x128.Idx) (y : S1152x512.Idx) (h0 : (y 0).val = ro + (x 0).val) (h1 : (y 1).val = 0 + (x 1).val) :
    (show EReal from extractStridedSlice S128x128 ![0, 0] (att256
        (cat (View.ld Q (Rect.unit ![ro, 0] ![128, 128] ha)) (View.ld Q (Rect.unit ![ro, 128] ![128, 128] hb))
          (View.ld Q (Rect.unit ![ro, 256] ![128, 128] hc)) (View.ld Q (Rect.unit ![ro, 384] ![128, 128] hd)))
        (View.ld K (Rect.unit ![ko, 0] ![256, 128] hk)) (View.ld V (Rect.unit ![ko, 0] ![256, 128] hk))) slices_S512x128_o0_0_S128x128 x)
    = headOut Q K V (y 0) (y 1) := by
  obtain ⟨r, e, rfl⟩ : ∃ r e : Fin 128, x = ix2 r e := ⟨x 0, x 1, by funext a; fin_cases a <;> rfl⟩
  obtain ⟨R, l, rfl⟩ : ∃ (R : Fin 1152) (l : Fin 512), y = ix2 R l := ⟨y 0, y 1, by funext a; fin_cases a <;> rfl⟩
  replace h0 : R.val = ro + r.val := h0
  replace h1 : l.val = 0 + e.val := h1
  show _ = headOut Q K V R l
  have hp : R.val % 384 = r.val + 128 := by omega
  have hs : R.val / 384 * 384 = ko := by omega
  have hl : l.val / 128 * 128 = 0 := by omega
  have he : (⟨l.val % 128, by omega⟩ : Fin 128) = e := Fin.ext (by show l.val % 128 = e.val; omega)
  refine (slice_0_256 _ _ _ _ _ _ r e).trans ?_
  refine Eq.trans ?_ (soft_score (n := 256) (N := 384) (by omega) (R.val % 384) (by omega) _ _ _ (fun f => hQ _) (fun s f => hK _))
  unfold soft score
  simp only [hp]
  have kq : ∀ f : Fin 128, (show EReal from View.ld Q (Rect.unit ![ro, 0] ![128, 128] ha) (ix2 r f)) = Q (ix2 R ⟨l.val / 128 * 128 + f, by omega⟩) :=
    fun f => ldQ Q ro 0 ha r f _ _ h0 (by show l.val / 128 * 128 + f.val = _; omega)
  have kk : ∀ (s : Fin 256) (f : Fin 128), (show EReal from View.ld K (Rect.unit ![ko, 0] ![256, 128] hk) (ix2 s f))
      = K (ix2 ⟨R.val / 384 * 384 + (Fin.castLE (by omega : 256 ≤ 384) s).val, by have := s.isLt; simp only [Fin.val_castLE]; omega⟩ f) :=
    fun s f => ldK_256 K ko hk s f _ (by show R.val / 384 * 384 + s.val = _; omega)
  have kv : ∀ s : Fin 256, (show EReal from View.ld V (Rect.unit ![ko, 0] ![256, 128] hk) (ix2 s e))
      = V (ix2 ⟨R.val / 384 * 384 + (Fin.castLE (by omega : 256 ≤ 384) s).val, by have := s.isLt; simp only [Fin.val_castLE]; omega⟩ ⟨l.val % 128, by omega⟩) :=
    fun s => by rw [he]; exact ldK_256 V ko hk s e _ (by show R.val / 384 * 384 + s.val = _; omega)
  simp only [kq, kk, kv, Fin.val_castLE]

theorem head_1_256 (Q : Vec Ideal S1152x512 .bf16) (K V : Vec Ideal S1152x128 .bf16) (hQ : ∀ i, ∃ r : ℝ, Q i = r) (hK : ∀ i, ∃ r : ℝ, K i = r)
    (ro ko : ℕ) (hro : ro = ko + 128) (hko : ko % 384 = 0)
    (ha : ∀ a : Fin 2, ![ro, 0] a + ![128, 128] a ≤ S1152x512.size a) (hb : ∀ a : Fin 2, ![ro, 128] a + ![128, 128] a ≤ S1152x512.size a)
    (hc : ∀ a : Fin 2, ![ro, 256] a + ![128, 128] a ≤ S1152x512.size a) (hd : ∀ a : Fin 2, ![ro, 384] a + ![128, 128] a ≤ S1152x512.size a)
    (hk : ∀ a : Fin 2, ![ko, 0] a + ![256, 128] a ≤ S1152x128.size a)
    (x : S128x128.Idx) (y : S1152x512.Idx) (h0 : (y 0).val = ro + (x 0).val) (h1 : (y 1).val = 128 + (x 1).val) :
    (show EReal from extractStridedSlice S128x128 ![128, 0] (att256
        (cat (View.ld Q (Rect.unit ![ro, 0] ![128, 128] ha)) (View.ld Q (Rect.unit ![ro, 128] ![128, 128] hb))
          (View.ld Q (Rect.unit ![ro, 256] ![128, 128] hc)) (View.ld Q (Rect.unit ![ro, 384] ![128, 128] hd)))
        (View.ld K (Rect.unit ![ko, 0] ![256, 128] hk)) (View.ld V (Rect.unit ![ko, 0] ![256, 128] hk))) slices_S512x128_o128_0_S128x128 x)
    = headOut Q K V (y 0) (y 1) := by
  obtain ⟨r, e, rfl⟩ : ∃ r e : Fin 128, x = ix2 r e := ⟨x 0, x 1, by funext a; fin_cases a <;> rfl⟩
  obtain ⟨R, l, rfl⟩ : ∃ (R : Fin 1152) (l : Fin 512), y = ix2 R l := ⟨y 0, y 1, by funext a; fin_cases a <;> rfl⟩
  replace h0 : R.val = ro + r.val := h0
  replace h1 : l.val = 128 + e.val := h1
  show _ = headOut Q K V R l
  have hp : R.val % 384 = r.val + 128 := by omega
  have hs : R.val / 384 * 384 = ko := by omega
  have hl : l.val / 128 * 128 = 128 := by omega
  have he : (⟨l.val % 128, by omega⟩ : Fin 128) = e := Fin.ext (by show l.val % 128 = e.val; omega)
  refine (slice_1_256 _ _ _ _ _ _ r e).trans ?_
  refine Eq.trans ?_ (soft_score (n := 256) (N := 384) (by omega) (R.val % 384) (by omega) _ _ _ (fun f => hQ _) (fun s f => hK _))
  unfold soft score
  simp only [hp]
  have kq : ∀ f : Fin 128, (show EReal from View.ld Q (Rect.unit ![ro, 128] ![128, 128] hb) (ix2 r f)) = Q (ix2 R ⟨l.val / 128 * 128 + f, by omega⟩) :=
    fun f => ldQ Q ro 128 hb r f _ _ h0 (by show l.val / 128 * 128 + f.val = _; omega)
  have kk : ∀ (s : Fin 256) (f : Fin 128), (show EReal from View.ld K (Rect.unit ![ko, 0] ![256, 128] hk) (ix2 s f))
      = K (ix2 ⟨R.val / 384 * 384 + (Fin.castLE (by omega : 256 ≤ 384) s).val, by have := s.isLt; simp only [Fin.val_castLE]; omega⟩ f) :=
    fun s f => ldK_256 K ko hk s f _ (by show R.val / 384 * 384 + s.val = _; omega)
  have kv : ∀ s : Fin 256, (show EReal from View.ld V (Rect.unit ![ko, 0] ![256, 128] hk) (ix2 s e))
      = V (ix2 ⟨R.val / 384 * 384 + (Fin.castLE (by omega : 256 ≤ 384) s).val, by have := s.isLt; simp only [Fin.val_castLE]; omega⟩ ⟨l.val % 128, by omega⟩) :=
    fun s => by rw [he]; exact ldK_256 V ko hk s e _ (by show R.val / 384 * 384 + s.val = _; omega)
  simp only [kq, kk, kv, Fin.val_castLE]

theorem head_2_256 (Q : Vec Ideal S1152x512 .bf16) (K V : Vec Ideal S1152x128 .bf16) (hQ : ∀ i, ∃ r : ℝ, Q i = r) (hK : ∀ i, ∃ r : ℝ, K i = r)
    (ro ko : ℕ) (hro : ro = ko + 128) (hko : ko % 384 = 0)
    (ha : ∀ a : Fin 2, ![ro, 0] a + ![128, 128] a ≤ S1152x512.size a) (hb : ∀ a : Fin 2, ![ro, 128] a + ![128, 128] a ≤ S1152x512.size a)
    (hc : ∀ a : Fin 2, ![ro, 256] a + ![128, 128] a ≤ S1152x512.size a) (hd : ∀ a : Fin 2, ![ro, 384] a + ![128, 128] a ≤ S1152x512.size a)
    (hk : ∀ a : Fin 2, ![ko, 0] a + ![256, 128] a ≤ S1152x128.size a)
    (x : S128x128.Idx) (y : S1152x512.Idx) (h0 : (y 0).val = ro + (x 0).val) (h1 : (y 1).val = 256 + (x 1).val) :
    (show EReal from extractStridedSlice S128x128 ![256, 0] (att256
        (cat (View.ld Q (Rect.unit ![ro, 0] ![128, 128] ha)) (View.ld Q (Rect.unit ![ro, 128] ![128, 128] hb))
          (View.ld Q (Rect.unit ![ro, 256] ![128, 128] hc)) (View.ld Q (Rect.unit ![ro, 384] ![128, 128] hd)))
        (View.ld K (Rect.unit ![ko, 0] ![256, 128] hk)) (View.ld V (Rect.unit ![ko, 0] ![256, 128] hk))) slices_S512x128_o256_0_S128x128 x)
    = headOut Q K V (y 0) (y 1) := by
  obtain ⟨r, e, rfl⟩ : ∃ r e : Fin 128, x = ix2 r e := ⟨x 0, x 1, by funext a; fin_cases a <;> rfl⟩
  obtain ⟨R, l, rfl⟩ : ∃ (R : Fin 1152) (l : Fin 512), y = ix2 R l := ⟨y 0, y 1, by funext a; fin_cases a <;> rfl⟩
  replace h0 : R.val = ro + r.val := h0
  replace h1 : l.val = 256 + e.val := h1
  show _ = headOut Q K V R l
  have hp : R.val % 384 = r.val + 128 := by omega
  have hs : R.val / 384 * 384 = ko := by omega
  have hl : l.val / 128 * 128 = 256 := by omega
  have he : (⟨l.val % 128, by omega⟩ : Fin 128) = e := Fin.ext (by show l.val % 128 = e.val; omega)
  refine (slice_2_256 _ _ _ _ _ _ r e).trans ?_
  refine Eq.trans ?_ (soft_score (n := 256) (N := 384) (by omega) (R.val % 384) (by omega) _ _ _ (fun f => hQ _) (fun s f => hK _))
  unfold soft score
  simp only [hp]
  have kq : ∀ f : Fin 128, (show EReal from View.ld Q (Rect.unit ![ro, 256] ![128, 128] hc) (ix2 r f)) = Q (ix2 R ⟨l.val / 128 * 128 + f, by omega⟩) :=
    fun f => ldQ Q ro 256 hc r f _ _ h0 (by show l.val / 128 * 128 + f.val = _; omega)
  have kk : ∀ (s : Fin 256) (f : Fin 128), (show EReal from View.ld K (Rect.unit ![ko, 0] ![256, 128] hk) (ix2 s f))
      = K (ix2 ⟨R.val / 384 * 384 + (Fin.castLE (by omega : 256 ≤ 384) s).val, by have := s.isLt; simp only [Fin.val_castLE]; omega⟩ f) :=
    fun s f => ldK_256 K ko hk s f _ (by show R.val / 384 * 384 + s.val = _; omega)
  have kv : ∀ s : Fin 256, (show EReal from View.ld V (Rect.unit ![ko, 0] ![256, 128] hk) (ix2 s e))
      = V (ix2 ⟨R.val / 384 * 384 + (Fin.castLE (by omega : 256 ≤ 384) s).val, by have := s.isLt; simp only [Fin.val_castLE]; omega⟩ ⟨l.val % 128, by omega⟩) :=
    fun s => by rw [he]; exact ldK_256 V ko hk s e _ (by show R.val / 384 * 384 + s.val = _; omega)
  simp only [kq, kk, kv, Fin.val_castLE]

theorem head_3_256 (Q : Vec Ideal S1152x512 .bf16) (K V : Vec Ideal S1152x128 .bf16) (hQ : ∀ i, ∃ r : ℝ, Q i = r) (hK : ∀ i, ∃ r : ℝ, K i = r)
    (ro ko : ℕ) (hro : ro = ko + 128) (hko : ko % 384 = 0)
    (ha : ∀ a : Fin 2, ![ro, 0] a + ![128, 128] a ≤ S1152x512.size a) (hb : ∀ a : Fin 2, ![ro, 128] a + ![128, 128] a ≤ S1152x512.size a)
    (hc : ∀ a : Fin 2, ![ro, 256] a + ![128, 128] a ≤ S1152x512.size a) (hd : ∀ a : Fin 2, ![ro, 384] a + ![128, 128] a ≤ S1152x512.size a)
    (hk : ∀ a : Fin 2, ![ko, 0] a + ![256, 128] a ≤ S1152x128.size a)
    (x : S128x128.Idx) (y : S1152x512.Idx) (h0 : (y 0).val = ro + (x 0).val) (h1 : (y 1).val = 384 + (x 1).val) :
    (show EReal from extractStridedSlice S128x128 ![384, 0] (att256
        (cat (View.ld Q (Rect.unit ![ro, 0] ![128, 128] ha)) (View.ld Q (Rect.unit ![ro, 128] ![128, 128] hb))
          (View.ld Q (Rect.unit ![ro, 256] ![128, 128] hc)) (View.ld Q (Rect.unit ![ro, 384] ![128, 128] hd)))
        (View.ld K (Rect.unit ![ko, 0] ![256, 128] hk)) (View.ld V (Rect.unit ![ko, 0] ![256, 128] hk))) slices_S512x128_o384_0_S128x128 x)
    = headOut Q K V (y 0) (y 1) := by
  obtain ⟨r, e, rfl⟩ : ∃ r e : Fin 128, x = ix2 r e := ⟨x 0, x 1, by funext a; fin_cases a <;> rfl⟩
  obtain ⟨R, l, rfl⟩ : ∃ (R : Fin 1152) (l : Fin 512), y = ix2 R l := ⟨y 0, y 1, by funext a; fin_cases a <;> rfl⟩
  replace h0 : R.val = ro + r.val := h0
  replace h1 : l.val = 384 + e.val := h1
  show _ = headOut Q K V R l
  have hp : R.val % 384 = r.val + 128 := by omega
  have hs : R.val / 384 * 384 = ko := by omega
  have hl : l.val / 128 * 128 = 384 := by omega
  have he : (⟨l.val % 128, by omega⟩ : Fin 128) = e := Fin.ext (by show l.val % 128 = e.val; omega)
  refine (slice_3_256 _ _ _ _ _ _ r e).trans ?_
  refine Eq.trans ?_ (soft_score (n := 256) (N := 384) (by omega) (R.val % 384) (by omega) _ _ _ (fun f => hQ _) (fun s f => hK _))
  unfold soft score
  simp only [hp]
  have kq : ∀ f : Fin 128, (show EReal from View.ld Q (Rect.unit ![ro, 384] ![128, 128] hd) (ix2 r f)) = Q (ix2 R ⟨l.val / 128 * 128 + f, by omega⟩) :=
    fun f => ldQ Q ro 384 hd r f _ _ h0 (by show l.val / 128 * 128 + f.val = _; omega)
  have kk : ∀ (s : Fin 256) (f : Fin 128), (show EReal from View.ld K (Rect.unit ![ko, 0] ![256, 128] hk) (ix2 s f))
      = K (ix2 ⟨R.val / 384 * 384 + (Fin.castLE (by omega : 256 ≤ 384) s).val, by have := s.isLt; simp only [Fin.val_castLE]; omega⟩ f) :=
    fun s f => ldK_256 K ko hk s f _ (by show R.val / 384 * 384 + s.val = _; omega)
  have kv : ∀ s : Fin 256, (show EReal from View.ld V (Rect.unit ![ko, 0] ![256, 128] hk) (ix2 s e))
      = V (ix2 ⟨R.val / 384 * 384 + (Fin.castLE (by omega : 256 ≤ 384) s).val, by have := s.isLt; simp only [Fin.val_castLE]; omega⟩ ⟨l.val % 128, by omega⟩) :=
    fun s => by rw [he]; exact ldK_256 V ko hk s e _ (by show R.val / 384 * 384 + s.val = _; omega)
  simp only [kq, kk, kv, Fin.val_castLE]

theorem ldK_384 (K : Vec Ideal S1152x128 .bf16) (ro : ℕ) (h : ∀ a : Fin 2, ![ro, 0] a + ![384, 128] a ≤ S1152x128.size a) (s : Fin 384) (f : Fin 128) (R : Fin 1152)
    (hR : R.val = ro + s) :
    (show EReal from View.ld K (Rect.unit ![ro, 0] ![384, 128] h) (ix2 s f)) = K (ix2 R f) := by
  refine congrArg K (funext fun a => Fin.ext ?_)
  fin_cases a
  · show ro + 1 * s.val = R.val; omega
  · show 0 + 1 * f.val = f.val; omega

theorem head_0_384 (Q : Vec Ideal S1152x512 .bf16) (K V : Vec Ideal S1152x128 .bf16) (hQ : ∀ i, ∃ r : ℝ, Q i = r) (hK : ∀ i, ∃ r : ℝ, K i = r)
    (ro ko : ℕ) (hro : ro = ko + 256) (hko : ko % 384 = 0)
    (ha : ∀ a : Fin 2, ![ro, 0] a + ![128, 128] a ≤ S1152x512.size a) (hb : ∀ a : Fin 2, ![ro, 128] a + ![128, 128] a ≤ S1152x512.size a)
    (hc : ∀ a : Fin 2, ![ro, 256] a + ![128, 128] a ≤ S1152x512.size a) (hd : ∀ a : Fin 2, ![ro, 384] a + ![128, 128] a ≤ S1152x512.size a)
    (hk : ∀ a : Fin 2, ![ko, 0] a + ![384, 128] a ≤ S1152x128.size a)
    (x : S128x128.Idx) (y : S1152x512.Idx) (h0 : (y 0).val = ro + (x 0).val) (h1 : (y 1).val = 0 + (x 1).val) :
    (show EReal from extractStridedSlice S128x128 ![0, 0] (att384
        (cat (View.ld Q (Rect.unit ![ro, 0] ![128, 128] ha)) (View.ld Q (Rect.unit ![ro, 128] ![128, 128] hb))
          (View.ld Q (Rect.unit ![ro, 256] ![128, 128] hc)) (View.ld Q (Rect.unit ![ro, 384] ![128, 128] hd)))
        (View.ld K (Rect.unit ![ko, 0] ![384, 128] hk)) (View.ld V (Rect.unit ![ko, 0] ![384, 128] hk))) slices_S512x128_o0_0_S128x128 x)
    = headOut Q K V (y 0) (y 1) := by
  obtain ⟨r, e, rfl⟩ : ∃ r e : Fin 128, x = ix2 r e := ⟨x 0, x 1, by funext a; fin_cases a <;> rfl⟩
  obtain ⟨R, l, rfl⟩ : ∃ (R : Fin 1152) (l : Fin 512), y = ix2 R l := ⟨y 0, y 1, by funext a; fin_cases a <;> rfl⟩
  replace h0 : R.val = ro + r.val := h0
  replace h1 : l.val = 0 + e.val := h1
  show _ = headOut Q K V R l
  have hp : R.val % 384 = r.val + 256 := by omega
  have hs : R.val / 384 * 384 = ko := by omega
  have hl : l.val / 128 * 128 = 0 := by omega
  have he : (⟨l.val % 128, by omega⟩ : Fin 128) = e := Fin.ext (by show l.val % 128 = e.val; omega)
  refine (slice_0_384 _ _ _ _ _ _ r e).trans ?_
  refine Eq.trans ?_ (soft_score (n := 384) (N := 384) (by omega) (R.val % 384) (by omega) _ _ _ (fun f => hQ _) (fun s f => hK _))
  unfold soft score
  simp only [hp]
  have kq : ∀ f : Fin 128, (show EReal from View.ld Q (Rect.unit ![ro, 0] ![128, 128] ha) (ix2 r f)) = Q (ix2 R ⟨l.val / 128 * 128 + f, by omega⟩) :=
    fun f => ldQ Q ro 0 ha r f _ _ h0 (by show l.val / 128 * 128 + f.val = _; omega)
  have kk : ∀ (s : Fin 384) (f : Fin 128), (show EReal from View.ld K (Rect.unit ![ko, 0] ![384, 128] hk) (ix2 s f))
      = K (ix2 ⟨R.val / 384 * 384 + (Fin.castLE (by omega : 384 ≤ 384) s).val, by have := s.isLt; simp only [Fin.val_castLE]; omega⟩ f) :=
    fun s f => ldK_384 K ko hk s f _ (by show R.val / 384 * 384 + s.val = _; omega)
  have kv : ∀ s : Fin 384, (show EReal from View.ld V (Rect.unit ![ko, 0] ![384, 128] hk) (ix2 s e))
      = V (ix2 ⟨R.val / 384 * 384 + (Fin.castLE (by omega : 384 ≤ 384) s).val, by have := s.isLt; simp only [Fin.val_castLE]; omega⟩ ⟨l.val % 128, by omega⟩) :=
    fun s => by rw [he]; exact ldK_384 V ko hk s e _ (by show R.val / 384 * 384 + s.val = _; omega)
  simp only [kq, kk, kv, Fin.val_castLE]

theorem head_1_384 (Q : Vec Ideal S1152x512 .bf16) (K V : Vec Ideal S1152x128 .bf16) (hQ : ∀ i, ∃ r : ℝ, Q i = r) (hK : ∀ i, ∃ r : ℝ, K i = r)
    (ro ko : ℕ) (hro : ro = ko + 256) (hko : ko % 384 = 0)
    (ha : ∀ a : Fin 2, ![ro, 0] a + ![128, 128] a ≤ S1152x512.size a) (hb : ∀ a : Fin 2, ![ro, 128] a + ![128, 128] a ≤ S1152x512.size a)
    (hc : ∀ a : Fin 2, ![ro, 256] a + ![128, 128] a ≤ S1152x512.size a) (hd : ∀ a : Fin 2, ![ro, 384] a + ![128, 128] a ≤ S1152x512.size a)
    (hk : ∀ a : Fin 2, ![ko, 0] a + ![384, 128] a ≤ S1152x128.size a)
    (x : S128x128.Idx) (y : S1152x512.Idx) (h0 : (y 0).val = ro + (x 0).val) (h1 : (y 1).val = 128 + (x 1).val) :
    (show EReal from extractStridedSlice S128x128 ![128, 0] (att384
        (cat (View.ld Q (Rect.unit ![ro, 0] ![128, 128] ha)) (View.ld Q (Rect.unit ![ro, 128] ![128, 128] hb))
          (View.ld Q (Rect.unit ![ro, 256] ![128, 128] hc)) (View.ld Q (Rect.unit ![ro, 384] ![128, 128] hd)))
        (View.ld K (Rect.unit ![ko, 0] ![384, 128] hk)) (View.ld V (Rect.unit ![ko, 0] ![384, 128] hk))) slices_S512x128_o128_0_S128x128 x)
    = headOut Q K V (y 0) (y 1) := by
  obtain ⟨r, e, rfl⟩ : ∃ r e : Fin 128, x = ix2 r e := ⟨x 0, x 1, by funext a; fin_cases a <;> rfl⟩
  obtain ⟨R, l, rfl⟩ : ∃ (R : Fin 1152) (l : Fin 512), y = ix2 R l := ⟨y 0, y 1, by funext a; fin_cases a <;> rfl⟩
  replace h0 : R.val = ro + r.val := h0
  replace h1 : l.val = 128 + e.val := h1
  show _ = headOut Q K V R l
  have hp : R.val % 384 = r.val + 256 := by omega
  have hs : R.val / 384 * 384 = ko := by omega
  have hl : l.val / 128 * 128 = 128 := by omega
  have he : (⟨l.val % 128, by omega⟩ : Fin 128) = e := Fin.ext (by show l.val % 128 = e.val; omega)
  refine (slice_1_384 _ _ _ _ _ _ r e).trans ?_
  refine Eq.trans ?_ (soft_score (n := 384) (N := 384) (by omega) (R.val % 384) (by omega) _ _ _ (fun f => hQ _) (fun s f => hK _))
  unfold soft score
  simp only [hp]
  have kq : ∀ f : Fin 128, (show EReal from View.ld Q (Rect.unit ![ro, 128] ![128, 128] hb) (ix2 r f)) = Q (ix2 R ⟨l.val / 128 * 128 + f, by omega⟩) :=
    fun f => ldQ Q ro 128 hb r f _ _ h0 (by show l.val / 128 * 128 + f.val = _; omega)
  have kk : ∀ (s : Fin 384) (f : Fin 128), (show EReal from View.ld K (Rect.unit ![ko, 0] ![384, 128] hk) (ix2 s f))
      = K (ix2 ⟨R.val / 384 * 384 + (Fin.castLE (by omega : 384 ≤ 384) s).val, by have := s.isLt; simp only [Fin.val_castLE]; omega⟩ f) :=
    fun s f => ldK_384 K ko hk s f _ (by show R.val / 384 * 384 + s.val = _; omega)
  have kv : ∀ s : Fin 384, (show EReal from View.ld V (Rect.unit ![ko, 0] ![384, 128] hk) (ix2 s e))
      = V (ix2 ⟨R.val / 384 * 384 + (Fin.castLE (by omega : 384 ≤ 384) s).val, by have := s.isLt; simp only [Fin.val_castLE]; omega⟩ ⟨l.val % 128, by omega⟩) :=
    fun s => by rw [he]; exact ldK_384 V ko hk s e _ (by show R.val / 384 * 384 + s.val = _; omega)
  simp only [kq, kk, kv, Fin.val_castLE]

theorem head_2_384 (Q : Vec Ideal S1152x512 .bf16) (K V : Vec Ideal S1152x128 .bf16) (hQ : ∀ i, ∃ r : ℝ, Q i = r) (hK : ∀ i, ∃ r : ℝ, K i = r)
    (ro ko : ℕ) (hro : ro = ko + 256) (hko : ko % 384 = 0)
    (ha : ∀ a : Fin 2, ![ro, 0] a + ![128, 128] a ≤ S1152x512.size a) (hb : ∀ a : Fin 2, ![ro, 128] a + ![128, 128] a ≤ S1152x512.size a)
    (hc : ∀ a : Fin 2, ![ro, 256] a + ![128, 128] a ≤ S1152x512.size a) (hd : ∀ a : Fin 2, ![ro, 384] a + ![128, 128] a ≤ S1152x512.size a)
    (hk : ∀ a : Fin 2, ![ko, 0] a + ![384, 128] a ≤ S1152x128.size a)
    (x : S128x128.Idx) (y : S1152x512.Idx) (h0 : (y 0).val = ro + (x 0).val) (h1 : (y 1).val = 256 + (x 1).val) :
    (show EReal from extractStridedSlice S128x128 ![256, 0] (att384
        (cat (View.ld Q (Rect.unit ![ro, 0] ![128, 128] ha)) (View.ld Q (Rect.unit ![ro, 128] ![128, 128] hb))
          (View.ld Q (Rect.unit ![ro, 256] ![128, 128] hc)) (View.ld Q (Rect.unit ![ro, 384] ![128, 128] hd)))
        (View.ld K (Rect.unit ![ko, 0] ![384, 128] hk)) (View.ld V (Rect.unit ![ko, 0] ![384, 128] hk))) slices_S512x128_o256_0_S128x128 x)
    = headOut Q K V (y 0) (y 1) := by
  obtain ⟨r, e, rfl⟩ : ∃ r e : Fin 128, x = ix2 r e := ⟨x 0, x 1, by funext a; fin_cases a <;> rfl⟩
  obtain ⟨R, l, rfl⟩ : ∃ (R : Fin 1152) (l : Fin 512), y = ix2 R l := ⟨y 0, y 1, by funext a; fin_cases a <;> rfl⟩
  replace h0 : R.val = ro + r.val := h0
  replace h1 : l.val = 256 + e.val := h1
  show _ = headOut Q K V R l
  have hp : R.val % 384 = r.val + 256 := by omega
  have hs : R.val / 384 * 384 = ko := by omega
  have hl : l.val / 128 * 128 = 256 := by omega
  have he : (⟨l.val % 128, by omega⟩ : Fin 128) = e := Fin.ext (by show l.val % 128 = e.val; omega)
  refine (slice_2_384 _ _ _ _ _ _ r e).trans ?_
  refine Eq.trans ?_ (soft_score (n := 384) (N := 384) (by omega) (R.val % 384) (by omega) _ _ _ (fun f => hQ _) (fun s f => hK _))
  unfold soft score
  simp only [hp]
  have kq : ∀ f : Fin 128, (show EReal from View.ld Q (Rect.unit ![ro, 256] ![128, 128] hc) (ix2 r f)) = Q (ix2 R ⟨l.val / 128 * 128 + f, by omega⟩) :=
    fun f => ldQ Q ro 256 hc r f _ _ h0 (by show l.val / 128 * 128 + f.val = _; omega)
  have kk : ∀ (s : Fin 384) (f : Fin 128), (show EReal from View.ld K (Rect.unit ![ko, 0] ![384, 128] hk) (ix2 s f))
      = K (ix2 ⟨R.val / 384 * 384 + (Fin.castLE (by omega : 384 ≤ 384) s).val, by have := s.isLt; simp only [Fin.val_castLE]; omega⟩ f) :=
    fun s f => ldK_384 K ko hk s f _ (by show R.val / 384 * 384 + s.val = _; omega)
  have kv : ∀ s : Fin 384, (show EReal from View.ld V (Rect.unit ![ko, 0] ![384, 128] hk) (ix2 s e))
      = V (ix2 ⟨R.val / 384 * 384 + (Fin.castLE (by omega : 384 ≤ 384) s).val, by have := s.isLt; simp only [Fin.val_castLE]; omega⟩ ⟨l.val % 128, by omega⟩) :=
    fun s => by rw [he]; exact ldK_384 V ko hk s e _ (by show R.val / 384 * 384 + s.val = _; omega)
  simp only [kq, kk, kv, Fin.val_castLE]

theorem head_3_384 (Q : Vec Ideal S1152x512 .bf16) (K V : Vec Ideal S1152x128 .bf16) (hQ : ∀ i, ∃ r : ℝ, Q i = r) (hK : ∀ i, ∃ r : ℝ, K i = r)
    (ro ko : ℕ) (hro : ro = ko + 256) (hko : ko % 384 = 0)
    (ha : ∀ a : Fin 2, ![ro, 0] a + ![128, 128] a ≤ S1152x512.size a) (hb : ∀ a : Fin 2, ![ro, 128] a + ![128, 128] a ≤ S1152x512.size a)
    (hc : ∀ a : Fin 2, ![ro, 256] a + ![128, 128] a ≤ S1152x512.size a) (hd : ∀ a : Fin 2, ![ro, 384] a + ![128, 128] a ≤ S1152x512.size a)
    (hk : ∀ a : Fin 2, ![ko, 0] a + ![384, 128] a ≤ S1152x128.size a)
    (x : S128x128.Idx) (y : S1152x512.Idx) (h0 : (y 0).val = ro + (x 0).val) (h1 : (y 1).val = 384 + (x 1).val) :
    (show EReal from extractStridedSlice S128x128 ![384, 0] (att384
        (cat (View.ld Q (Rect.unit ![ro, 0] ![128, 128] ha)) (View.ld Q (Rect.unit ![ro, 128] ![128, 128] hb))
          (View.ld Q (Rect.unit ![ro, 256] ![128, 128] hc)) (View.ld Q (Rect.unit ![ro, 384] ![128, 128] hd)))
        (View.ld K (Rect.unit ![ko, 0] ![384, 128] hk)) (View.ld V (Rect.unit ![ko, 0] ![384, 128] hk))) slices_S512x128_o384_0_S128x128 x)
    = headOut Q K V (y 0) (y 1) := by
  obtain ⟨r, e, rfl⟩ : ∃ r e : Fin 128, x = ix2 r e := ⟨x 0, x 1, by funext a; fin_cases a <;> rfl⟩
  obtain ⟨R, l, rfl⟩ : ∃ (R : Fin 1152) (l : Fin 512), y = ix2 R l := ⟨y 0, y 1, by funext a; fin_cases a <;> rfl⟩
  replace h0 : R.val = ro + r.val := h0
  replace h1 : l.val = 384 + e.val := h1
  show _ = headOut Q K V R l
  have hp : R.val % 384 = r.val + 256 := by omega
  have hs : R.val / 384 * 384 = ko := by omega
  have hl : l.val / 128 * 128 = 384 := by omega
  have he : (⟨l.val % 128, by omega⟩ : Fin 128) = e := Fin.ext (by show l.val % 128 = e.val; omega)
  refine (slice_3_384 _ _ _ _ _ _ r e).trans ?_
  refine Eq.trans ?_ (soft_score (n := 384) (N := 384) (by omega) (R.val % 384) (by omega) _ _ _ (fun f => hQ _) (fun s f => hK _))
  unfold soft score
  simp only [hp]
  have kq : ∀ f : Fin 128, (show EReal from View.ld Q (Rect.unit ![ro, 384] ![128, 128] hd) (ix2 r f)) = Q (ix2 R ⟨l.val / 128 * 128 + f, by omega⟩) :=
    fun f => ldQ Q ro 384 hd r f _ _ h0 (by show l.val / 128 * 128 + f.val = _; omega)
  have kk : ∀ (s : Fin 384) (f : Fin 128), (show EReal from View.ld K (Rect.unit ![ko, 0] ![384, 128] hk) (ix2 s f))
      = K (ix2 ⟨R.val / 384 * 384 + (Fin.castLE (by omega : 384 ≤ 384) s).val, by have := s.isLt; simp only [Fin.val_castLE]; omega⟩ f) :=
    fun s f => ldK_384 K ko hk s f _ (by show R.val / 384 * 384 + s.val = _; omega)
  have kv : ∀ s : Fin 384, (show EReal from View.ld V (Rect.unit ![ko, 0] ![384, 128] hk) (ix2 s e))
      = V (ix2 ⟨R.val / 384 * 384 + (Fin.castLE (by omega : 384 ≤ 384) s).val, by have := s.isLt; simp only [Fin.val_castLE]; omega⟩ ⟨l.val % 128, by omega⟩) :=
    fun s => by rw [he]; exact ldK_384 V ko hk s e _ (by show R.val / 384 * 384 + s.val = _; omega)
  simp only [kq, kk, kv, Fin.val_castLE]

end Cert.AttnVal

end
-- ==== Proof.AttnVal.lean ====
module

public import proofs.«01_k».proof.Proof.AttnHeads

@[expose] public section

set_option maxRecDepth 16384

noncomputable section

open Idealize.ShloMosaic Idealize.ShloMosaic.TcCoe Idealize.SL.Sem
open Idealize.ShloMosaic.Pipeline (Dat)

namespace Cert.AttnVal

/-- One entry of the projection: the exact inner product of the code row `r` with the weight column `j`, times the
    product of the row's scale and the column's scale. -/
def proj (C : FVec Ideal ⟨2, ![1152, 2560]⟩ .f32) (S : FVec Ideal ⟨2, ![1152, 1]⟩ .f32) (W : FVec Ideal ⟨2, ![2560, 6144]⟩ .f32)
    (T : FVec Ideal ⟨1, ![6144]⟩ .f32) (r : Fin 1152) (j : Fin 6144) : EReal :=
  (∑ k : Fin 2560, C (ix2 r k) * W (ix2 k j)) * (S (ix2 r 0) * T (ix1 j))

/-- The attention output: row `r` of its sequence `r / 384`, head `l / 128`, whose key and value head is `l / 512`. -/
def attn (C : FVec Ideal ⟨2, ![1152, 2560]⟩ .f32) (S : FVec Ideal ⟨2, ![1152, 1]⟩ .f32) (W : FVec Ideal ⟨2, ![2560, 6144]⟩ .f32)
    (T : FVec Ideal ⟨1, ![6144]⟩ .f32) (r : Fin 1152) (l : Fin 4096) : EReal :=
  soft (score (n := 384) (fun f => proj C S W T r ⟨l.val / 128 * 128 + f, by omega⟩)
      (fun s f => proj C S W T ⟨r.val / 384 * 384 + s, by omega⟩ ⟨4096 + l.val / 512 * 128 + f, by omega⟩) (r.val % 384))
    (fun s => proj C S W T ⟨r.val / 384 * 384 + s, by omega⟩ ⟨5120 + l.val / 512 * 128 + l.val % 128, by omega⟩)

/-- The attention output as an array. -/
def attnV (C : FVec Ideal ⟨2, ![1152, 2560]⟩ .f32) (S : FVec Ideal ⟨2, ![1152, 1]⟩ .f32) (W : FVec Ideal ⟨2, ![2560, 6144]⟩ .f32)
    (T : FVec Ideal ⟨1, ![6144]⟩ .f32) : FVec Ideal ⟨2, ![1152, 4096]⟩ .f32 := fun j => attn C S W T (j 0) (j 1)

open Cert.AttnIdeal Cert.AttnIdeal.Gen
variable (m : (ℓ : Loc nD τ sig) → Buf (Elt Ideal) ℓ)

/-- The query projection of one group, as the body's first scratch array holds it. -/
def Qs (c : Dev nD) (t : Fin cfg0.N) : Vec Ideal S1152x512 .bf16 := k0_pay7 (iblk m c 0 t) (iblk m c 1 t) (iblk m c 2 t) (iblk m c 5 t)
/-- The key projection of one group. -/
def Ks (c : Dev nD) (t : Fin cfg0.N) : Vec Ideal S1152x128 .bf16 := k0_pay8 (iblk m c 0 t) (iblk m c 1 t) (iblk m c 3 t) (iblk m c 6 t)
/-- The value projection of one group. -/
def Vs (c : Dev nD) (t : Fin cfg0.N) : Vec Ideal S1152x128 .bf16 :=
  k0_pay11 (iblk m c 1 t) (k0_pay9 (iblk m c 0 t) (iblk m c 4 t)) (k0_pay10 (iblk m c 7 t))

/-- What the body leaves in its output block: the attention of the group's four heads, from the three projections. -/
theorem pt (c : Dev nD) (t : Fin cfg0.N) (hQ : ∀ i, ∃ r : ℝ, Qs m c t i = r) (hK : ∀ i, ∃ r : ℝ, Ks m c t i = r) (y : S1152x512.Idx) :
    outsAt0 m c t y = headOut (Qs m c t) (Ks m c t) (Vs m c t) (y 0) (y 1) := by
  unfold outsAt0; frame_out
  canon_tiles x h
  all_goals simp (discharger := decide) only [View.readCov_fill]
  case piece0 => exact head_3_384 (Qs m c t) (Ks m c t) (Vs m c t) hQ hK 1024 768 (by decide) (by decide) _ _ _ _ _ x y (by omega) (by omega)
  case piece1 => exact head_2_384 (Qs m c t) (Ks m c t) (Vs m c t) hQ hK 1024 768 (by decide) (by decide) _ _ _ _ _ x y (by omega) (by omega)
  case piece2 => exact head_1_384 (Qs m c t) (Ks m c t) (Vs m c t) hQ hK 1024 768 (by decide) (by decide) _ _ _ _ _ x y (by omega) (by omega)
  case piece3 => exact head_0_384 (Qs m c t) (Ks m c t) (Vs m c t) hQ hK 1024 768 (by decide) (by decide) _ _ _ _ _ x y (by omega) (by omega)
  case piece4 => exact head_3_256 (Qs m c t) (Ks m c t) (Vs m c t) hQ hK 896 768 (by decide) (by decide) _ _ _ _ _ x y (by omega) (by omega)
  case piece5 => exact head_2_256 (Qs m c t) (Ks m c t) (Vs m c t) hQ hK 896 768 (by decide) (by decide) _ _ _ _ _ x y (by omega) (by omega)
  case piece6 => exact head_1_256 (Qs m c t) (Ks m c t) (Vs m c t) hQ hK 896 768 (by decide) (by decide) _ _ _ _ _ x y (by omega) (by omega)
  case piece7 => exact head_0_256 (Qs m c t) (Ks m c t) (Vs m c t) hQ hK 896 768 (by decide) (by decide) _ _ _ _ _ x y (by omega) (by omega)
  case piece8 => exact head_3_128 (Qs m c t) (Ks m c t) (Vs m c t) hQ hK 768 768 (by decide) (by decide) _ _ _ _ _ x y (by omega) (by omega)
  case piece9 => exact head_2_128 (Qs m c t) (Ks m c t) (Vs m c t) hQ hK 768 768 (by decide) (by decide) _ _ _ _ _ x y (by omega) (by omega)
  case piece10 => exact head_1_128 (Qs m c t) (Ks m c t) (Vs m c t) hQ hK 768 768 (by decide) (by decide) _ _ _ _ _ x y (by omega) (by omega)
  case piece11 => exact head_0_128 (Qs m c t) (Ks m c t) (Vs m c t) hQ hK 768 768 (by decide) (by decide) _ _ _ _ _ x y (by omega) (by omega)
  case piece12 => exact head_3_384 (Qs m c t) (Ks m c t) (Vs m c t) hQ hK 640 384 (by decide) (by decide) _ _ _ _ _ x y (by omega) (by omega)
  case piece13 => exact head_2_384 (Qs m c t) (Ks m c t) (Vs m c t) hQ hK 640 384 (by decide) (by decide) _ _ _ _ _ x y (by omega) (by omega)
  case piece14 => exact head_1_384 (Qs m c t) (Ks m c t) (Vs m c t) hQ hK 640 384 (by decide) (by decide) _ _ _ _ _ x y (by omega) (by omega)
  case piece15 => exact head_0_384 (Qs m c t) (Ks m c t) (Vs m c t) hQ hK 640 384 (by decide) (by decide) _ _ _ _ _ x y (by omega) (by omega)
  case piece16 => exact head_3_256 (Qs m c t) (Ks m c t) (Vs m c t) hQ hK 512 384 (by decide) (by decide) _ _ _ _ _ x y (by omega) (by omega)
  case piece17 => exact head_2_256 (Qs m c t) (Ks m c t) (Vs m c t) hQ hK 512 384 (by decide) (by decide) _ _ _ _ _ x y (by omega) (by omega)
  case piece18 => exact head_1_256 (Qs m c t) (Ks m c t) (Vs m c t) hQ hK 512 384 (by decide) (by decide) _ _ _ _ _ x y (by omega) (by omega)
  case piece19 => exact head_0_256 (Qs m c t) (Ks m c t) (Vs m c t) hQ hK 512 384 (by decide) (by decide) _ _ _ _ _ x y (by omega) (by omega)
  case piece20 => exact head_3_128 (Qs m c t) (Ks m c t) (Vs m c t) hQ hK 384 384 (by decide) (by decide) _ _ _ _ _ x y (by omega) (by omega)
  case piece21 => exact head_2_128 (Qs m c t) (Ks m c t) (Vs m c t) hQ hK 384 384 (by decide) (by decide) _ _ _ _ _ x y (by omega) (by omega)
  case piece22 => exact head_1_128 (Qs m c t) (Ks m c t) (Vs m c t) hQ hK 384 384 (by decide) (by decide) _ _ _ _ _ x y (by omega) (by omega)
  case piece23 => exact head_0_128 (Qs m c t) (Ks m c t) (Vs m c t) hQ hK 384 384 (by decide) (by decide) _ _ _ _ _ x y (by omega) (by omega)
  case piece24 => exact head_3_384 (Qs m c t) (Ks m c t) (Vs m c t) hQ hK 256 0 (by decide) (by decide) _ _ _ _ _ x y (by omega) (by omega)
  case piece25 => exact head_2_384 (Qs m c t) (Ks m c t) (Vs m c t) hQ hK 256 0 (by decide) (by decide) _ _ _ _ _ x y (by omega) (by omega)
  case piece26 => exact head_1_384 (Qs m c t) (Ks m c t) (Vs m c t) hQ hK 256 0 (by decide) (by decide) _ _ _ _ _ x y (by omega) (by omega)
  case piece27 => exact head_0_384 (Qs m c t) (Ks m c t) (Vs m c t) hQ hK 256 0 (by decide) (by decide) _ _ _ _ _ x y (by omega) (by omega)
  case piece28 => exact head_3_256 (Qs m c t) (Ks m c t) (Vs m c t) hQ hK 128 0 (by decide) (by decide) _ _ _ _ _ x y (by omega) (by omega)
  case piece29 => exact head_2_256 (Qs m c t) (Ks m c t) (Vs m c t) hQ hK 128 0 (by decide) (by decide) _ _ _ _ _ x y (by omega) (by omega)
  case piece30 => exact head_1_256 (Qs m c t) (Ks m c t) (Vs m c t) hQ hK 128 0 (by decide) (by decide) _ _ _ _ _ x y (by omega) (by omega)
  case piece31 => exact head_0_256 (Qs m c t) (Ks m c t) (Vs m c t) hQ hK 128 0 (by decide) (by decide) _ _ _ _ _ x y (by omega) (by omega)
  case piece32 => exact head_3_128 (Qs m c t) (Ks m c t) (Vs m c t) hQ hK 0 0 (by decide) (by decide) _ _ _ _ _ x y (by omega) (by omega)
  case piece33 => exact head_2_128 (Qs m c t) (Ks m c t) (Vs m c t) hQ hK 0 0 (by decide) (by decide) _ _ _ _ _ x y (by omega) (by omega)
  case piece34 => exact head_1_128 (Qs m c t) (Ks m c t) (Vs m c t) hQ hK 0 0 (by decide) (by decide) _ _ _ _ _ x y (by omega) (by omega)
  case piece35 => exact head_0_128 (Qs m c t) (Ks m c t) (Vs m c t) hQ hK 0 0 (by decide) (by decide) _ _ _ _ _ x y (by omega) (by omega)

/-- The block each window stages at each grid point, decided over the grid. -/
theorem idx : ∀ t : Fin cfg0.N, win0_0.index t = ![0, 0] ∧ win0_1.index t = ![0, 0] ∧ win0_2.index t = ![0, t.val]
    ∧ win0_3.index t = ![0, 32 + t.val] ∧ win0_4.index t = ![0, 40 + t.val] ∧ win0_5.index t = ![0, t.val]
    ∧ win0_6.index t = ![0, 32 + t.val] ∧ win0_7.index t = ![0, 40 + t.val] ∧ win0_8.index t = ![0, t.val] :=
  (by decide +kernel : ∀ t : Fin grid0.N, _)

/-- The arguments, by the names of the kernel. -/
abbrev codesK (c : Dev nD) : FVec Ideal S1152x2560 .f32 := m ((c : Thread nD τ).loc main_arg0)
abbrev rowsK (c : Dev nD) : FVec Ideal S1152x1 .f32 := m ((c : Thread nD τ).loc main_arg1)
abbrev wK (c : Dev nD) : FVec Ideal S2560x6144 .f32 := m ((c : Thread nD τ).loc main_arg2)
abbrev colsK (c : Dev nD) : FVec Ideal S6144 .f32 := m ((c : Thread nD τ).loc main_arg3)

/-- The query block is the projection's columns of the group. -/
theorem Qs_at (c : Dev nD) (t : Fin cfg0.N) (r : Fin 1152) (j : Fin 512) :
    Qs m c t (ix2 r j) = proj (codesK m c) (rowsK m c) (wK m c) (colsK m c) r ⟨t.val * 512 + j, by have := lt_of_lt_of_eq t.isLt N_0; omega⟩ := by
  have ht := lt_of_lt_of_eq t.isLt N_0
  pointwise [Qs, k0_pay7, k0_pay6, proj]
  blk_point [iblk, V, idx t]

theorem Ks_at (c : Dev nD) (t : Fin cfg0.N) (r : Fin 1152) (j : Fin 128) :
    Ks m c t (ix2 r j) = proj (codesK m c) (rowsK m c) (wK m c) (colsK m c) r ⟨4096 + t.val * 128 + j, by have := lt_of_lt_of_eq t.isLt N_0; omega⟩ := by
  have ht := lt_of_lt_of_eq t.isLt N_0
  pointwise [Ks, k0_pay8, k0_pay6, proj]
  blk_point [iblk, V, idx t]

theorem Vs_at (c : Dev nD) (t : Fin cfg0.N) (r : Fin 1152) (j : Fin 128) :
    Vs m c t (ix2 r j) = proj (codesK m c) (rowsK m c) (wK m c) (colsK m c) r ⟨5120 + t.val * 128 + j, by have := lt_of_lt_of_eq t.isLt N_0; omega⟩ := by
  have ht := lt_of_lt_of_eq t.isLt N_0
  pointwise [Vs, k0_pay11, k0_pay10, k0_pay9, k0_pay6, proj]
  blk_point [iblk, V, idx t]

/-- The attention of a group's heads is the attention output's columns of the group. -/
theorem headOut_attn (c : Dev nD) (t : Fin cfg0.N) (R : Fin 1152) (l : Fin 512) (L : Fin 4096) (hL : L.val = t.val * 512 + l.val) :
    headOut (Qs m c t) (Ks m c t) (Vs m c t) R l = attn (codesK m c) (rowsK m c) (wK m c) (colsK m c) R L := by
  have ht := lt_of_lt_of_eq t.isLt N_0
  have q : (fun f : Fin 128 => (show EReal from Qs m c t (ix2 R ⟨l.val / 128 * 128 + f, by omega⟩)))
      = fun f : Fin 128 => proj (codesK m c) (rowsK m c) (wK m c) (colsK m c) R ⟨L.val / 128 * 128 + f, by omega⟩ :=
    funext fun f => (Qs_at m c t R _).trans (congrArg _ (Fin.ext (by
      show t.val * 512 + (l.val / 128 * 128 + f.val) = L.val / 128 * 128 + f.val; omega)))
  have k : (fun (s : Fin 384) (f : Fin 128) => (show EReal from Ks m c t (ix2 ⟨R.val / 384 * 384 + s, by omega⟩ f)))
      = fun (s : Fin 384) (f : Fin 128) => proj (codesK m c) (rowsK m c) (wK m c) (colsK m c) ⟨R.val / 384 * 384 + s, by omega⟩ ⟨4096 + L.val / 512 * 128 + f, by omega⟩ :=
    funext fun s => funext fun f => (Ks_at m c t _ f).trans (congrArg _ (Fin.ext (by
      show 4096 + t.val * 128 + f.val = 4096 + L.val / 512 * 128 + f.val; omega)))
  have v : (fun s : Fin 384 => (show EReal from Vs m c t (ix2 ⟨R.val / 384 * 384 + s, by omega⟩ ⟨l.val % 128, by omega⟩)))
      = fun s : Fin 384 => proj (codesK m c) (rowsK m c) (wK m c) (colsK m c) ⟨R.val / 384 * 384 + s, by omega⟩ ⟨5120 + L.val / 512 * 128 + L.val % 128, by omega⟩ :=
    funext fun s => (Vs_at m c t _ _).trans (congrArg _ (Fin.ext (by
      show 5120 + t.val * 128 + l.val % 128 = 5120 + L.val / 512 * 128 + L.val % 128; omega)))
  unfold headOut attn
  exact congrArg₂ soft (congrArg₂ (fun a b => score a b (R.val % 384)) q k) v

/-- The attention output's array after the run, where the query and key projections are numbers. -/
theorem final8 (c : Dev nD) (hf : ∀ (r : Fin 1152) (j : Fin 6144), j.val < 5120 → ∃ x : ℝ, proj (codesK m c) (rowsK m c) (wK m c) (colsK m c) r j = x) :
    (dats m 0 c).arrAt 8 (cfgs 0).N = attnV (codesK m c) (rowsK m c) (wK m c) (colsK m c) := by
  refine (dats m 0 c).arrAt_eq_of_covers 8 _ (by decide +kernel) fun t _ y => ?_
  have ht := lt_of_lt_of_eq t.isLt N_0
  have e0 : ((((cfg0.win 8).blk t).view.emb y) 0).val = (y 0).val := by blk_simp [idx t] <;> omega
  have e1 : ((((cfg0.win 8).blk t).view.emb y) 1).val = t.val * 512 + (y 1).val := by blk_simp [idx t] <;> omega
  have hQ : ∀ i, ∃ r : ℝ, Qs m c t i = r := fun i => by
    obtain ⟨r, j, rfl⟩ : ∃ (r : Fin 1152) (j : Fin 512), i = ix2 r j := ⟨i 0, i 1, by funext a; fin_cases a <;> rfl⟩
    obtain ⟨x, h⟩ := hf r ⟨t.val * 512 + j, by omega⟩ (by show t.val * 512 + j.val < 5120; omega)
    exact ⟨x, (Qs_at m c t r j).trans h⟩
  have hK : ∀ i, ∃ r : ℝ, Ks m c t i = r := fun i => by
    obtain ⟨r, j, rfl⟩ : ∃ (r : Fin 1152) (j : Fin 128), i = ix2 r j := ⟨i 0, i 1, by funext a; fin_cases a <;> rfl⟩
    obtain ⟨x, h⟩ := hf r ⟨4096 + t.val * 128 + j, by omega⟩ (by show 4096 + t.val * 128 + j.val < 5120; omega)
    exact ⟨x, (Ks_at m c t r j).trans h⟩
  have hp := pt m c t hQ hK y
  have hh := headOut_attn m c t (y 0) (y 1) ((((cfg0.win 8).blk t).view.emb y) 1) e1
  have hr : (((cfg0.win 8).blk t).view.emb y) 0 = y 0 := Fin.ext e0
  rw [← hr] at hh
  blk_simp
  rw [after0_8]
  refine hp.trans ?_
  rw [← hr]
  exact hh

end Cert.AttnVal

end
-- ==== Proof.AttnHostScores.lean ====
module

public import proofs.«01_k».proof.Proof.Gen.AttnRefIdeal.Frame
public import proofs.«01_k».proof.Proof.AttnVal

@[expose] public section

set_option maxRecDepth 16384

noncomputable section

open Idealize.ShloMosaic Idealize.ShloMosaic.TcCoe Idealize.SL.Sem
open Idealize.ShloMosaic.Pipeline (Dat)

namespace Cert.AttnVal
open Cert.AttnRefIdeal Cert.AttnRefIdeal.Gen
/-- The reference's masked scores, from the projection. -/
def hostS (P : FVec Ideal S1152x6144 .f32) : FVec Ideal S3x8x4x384x384 .f32 :=
  select
    (broadcastInDim S3x8x4x384x384 ![3, 4] bcast_S384x384_S3x8x4x384x384_3_4
      (cmpi CmpIPredicate.sgt
        (broadcastInDim S384x384 ![0, 1] bcast_S1x384_S384x384_0_1 (broadcastInDim S1x384 ![1] bcast_S384_S1x384_1 (iotaInDim S384 32 0)))
        (broadcastInDim S384x384 ![0, 1] bcast_S384x1_S384x384_0_1 (broadcastInDim S384x1 ![0] bcast_S384_S384x1_0 (iotaInDim S384 32 0)))))
    (broadcastInDim S3x8x4x384x384 ![] bcast_S_S3x8x4x384x384 (constant S_ .f32 0xFF800000#32))
    (mulf
      (transpose S3x8x4x384x384 [0, 1, 4, 3, 2]
        (Host.dotGeneral (φ₁ := .bf16) (φ₂ := .bf16) dot_S3x384x8x128_S3x384x8x4x128_S3x8x384x384x4_3_4_1_13_02_02 none
          (fun i => shapeCast S3x384x8x128
            (truncf .bf16 (extractStridedSlice S3x384x1024 ![0, 0, 4096]
              (fun i => shapeCast S3x384x6144 P shapeCasts_S1152x6144_S3x384x6144 i) slices_S3x384x6144_S3x384x1024_0_0_4096) bitsLt_bf16_f32)
            shapeCasts_S3x384x1024_S3x384x8x128 i)
          fun i => shapeCast S3x384x8x4x128
            (truncf .bf16 (extractStridedSlice S3x384x4096 ![0, 0, 0]
              (fun i => shapeCast S3x384x6144 P shapeCasts_S1152x6144_S3x384x6144 i) slices_S3x384x6144_S3x384x4096_0_0_0) bitsLt_bf16_f32)
            shapeCasts_S3x384x4096_S3x384x8x4x128 i)
        transposes_S3x8x384x384x4_S3x8x4x384x384_0_1_4_3_2)
      (broadcastInDim S3x8x4x384x384 ![] bcast_S_S3x8x4x384x384 (constant S_ .f32 0x3DB504F3#32)))

theorem select_score (t s : Fin 384) (n a a' c : EReal) (h : a = a') :
    Scalar.select (IntOp.cmpi CmpIPredicate.sgt (BitVec.ofNat 32 s.val) (BitVec.ofNat 32 t.val)) n (a * c) = if t.val < s.val then n else a' * c := by
  subst h
  exact select_after _ _ (by have := t.isLt; omega) (by have := s.isLt; omega) _ _

theorem sum_swap (F : Fin 1152 → Fin 6144 → EReal) (r r' : Fin 1152) (k k' q q' : Fin 128 → Fin 6144) (hk : ∀ f, (k f).val = (k' f).val)
    (hq : ∀ f, (q f).val = (q' f).val) : ∑ f, F r (k f) * F r' (q f) = ∑ f, F r' (q' f) * F r (k' f) := by
  rw [show k = k' from funext fun f => Fin.ext (hk f), show q = q' from funext fun f => Fin.ext (hq f)]
  exact Finset.sum_congr rfl fun f _ => mul_comm _ _

theorem hostS_apply (P : FVec Ideal S1152x6144 .f32) (b : Fin 3) (h : Fin 8) (g : Fin 4) (t s : Fin 384) :
    (show EReal from hostS P (ix5 b h g t s)) = score (fun f => P (ix2 ⟨b.val * 384 + t, by omega⟩ ⟨(h.val * 4 + g) * 128 + f, by omega⟩))
      (fun (s : Fin 384) f => P (ix2 ⟨b.val * 384 + s, by omega⟩ ⟨4096 + h.val * 128 + f, by omega⟩)) t.val s := by
  unfold score
  rw [← ninf]
  pointwise [hostS]
  refine select_score t s _ _ _ _ ?_
  refine sum_swap (fun r c => P (ix2 r c)) _ _ (fun f => ⟨4096 + (h.val * 128 + f.val), by omega⟩) (fun f => ⟨4096 + h.val * 128 + f.val, by omega⟩)
    (fun f => ⟨h.val * 512 + g.val * 128 + f.val, by omega⟩) (fun f => ⟨(h.val * 4 + g.val) * 128 + f.val, by omega⟩) (fun f => ?_) fun f => ?_
  · show 4096 + (h.val * 128 + f.val) = 4096 + h.val * 128 + f.val
    omega
  · show h.val * 512 + g.val * 128 + f.val = (h.val * 4 + g.val) * 128 + f.val
    omega

end Cert.AttnVal

end
-- ==== Proof.AttnHostWeights.lean ====
module

public import proofs.«01_k».proof.Proof.Gen.AttnRefIdeal.Frame
public import proofs.«01_k».proof.Proof.AttnBlock

@[expose] public section

set_option maxRecDepth 16384

noncomputable section

open Idealize.ShloMosaic Idealize.ShloMosaic.TcCoe Idealize.SL.Sem
open Idealize.ShloMosaic.Pipeline (Dat)

namespace Cert.AttnVal
open Cert.AttnRefIdeal Cert.AttnRefIdeal.Gen
/-- The reference's weights, from the masked scores. -/
def hostW (x : FVec Ideal S3x8x4x384x384 .f32) : FVec Ideal S3x8x4x384x384 .f32 :=
  Host.divf
    (Host.exp (subf x (broadcastInDim S3x8x4x384x384 ![0, 1, 2, 3, 4] bcast_S3x8x4x384x1_S3x8x4x384x384_0_1_2_3_4
      (broadcastInDim S3x8x4x384x1 ![0, 1, 2, 3] bcast_S3x8x4x384_S3x8x4x384x1_0_1_2_3
        (maximumf (broadcastInDim S3x8x4x384 ![] bcast_S_S3x8x4x384 (constant S_ .f32 0xFF800000#32))
          (Host.reduce FloatOps.maximumf x (constant S_ .f32 0xFF800000#32) reducesTo_S3x8x4x384x384_S3x8x4x384_d4 h_S_))))))
    (broadcastInDim S3x8x4x384x384 ![0, 1, 2, 3, 4] bcast_S3x8x4x384x1_S3x8x4x384x384_0_1_2_3_4
      (broadcastInDim S3x8x4x384x1 ![0, 1, 2, 3] bcast_S3x8x4x384_S3x8x4x384x1_0_1_2_3
        (Host.reduceAdd
          (Host.exp (subf x (broadcastInDim S3x8x4x384x384 ![0, 1, 2, 3, 4] bcast_S3x8x4x384x1_S3x8x4x384x384_0_1_2_3_4
            (broadcastInDim S3x8x4x384x1 ![0, 1, 2, 3] bcast_S3x8x4x384_S3x8x4x384x1_0_1_2_3
              (maximumf (broadcastInDim S3x8x4x384 ![] bcast_S_S3x8x4x384 (constant S_ .f32 0xFF800000#32))
                (Host.reduce FloatOps.maximumf x (constant S_ .f32 0xFF800000#32) reducesTo_S3x8x4x384x384_S3x8x4x384_d4 h_S_))))))
          (constant S_ .f32 0#32) reducesTo_S3x8x4x384x384_S3x8x4x384_d4 h_S_)))

theorem hostMax_apply (x : FVec Ideal S3x8x4x384x384 .f32) (b : Fin 3) (h : Fin 8) (g : Fin 4) (t : Fin 384) :
    (show EReal from (Host.reduce FloatOps.maximumf x (constant S_ .f32 0xFF800000#32) reducesTo_S3x8x4x384x384_S3x8x4x384_d4 h_S_ : FVec Ideal S3x8x4x384 .f32) (ix4 b h g t))
      = Finset.univ.fold max (Ideal.ofBits .f32 0xFF800000#32) (fun u : Fin 384 => (show EReal from x (ix5 b h g t u))) := by
  pointwise

theorem maxBot_apply (M : FVec Ideal S3x8x4x384 .f32) (b : Fin 3) (h : Fin 8) (g : Fin 4) (t : Fin 384) :
    (show EReal from maximumf (broadcastInDim S3x8x4x384 ![] bcast_S_S3x8x4x384 (constant S_ .f32 0xFF800000#32)) M (ix4 b h g t))
      = max (Ideal.ofBits .f32 0xFF800000#32) (M (ix4 b h g t)) := by
  pointwise

/-- The reference's row maxima are the largest scores. -/
theorem hostTop_apply (x : FVec Ideal S3x8x4x384x384 .f32) (b : Fin 3) (h : Fin 8) (g : Fin 4) (t : Fin 384) :
    (show EReal from maximumf (broadcastInDim S3x8x4x384 ![] bcast_S_S3x8x4x384 (constant S_ .f32 0xFF800000#32))
          (Host.reduce FloatOps.maximumf x (constant S_ .f32 0xFF800000#32) reducesTo_S3x8x4x384x384_S3x8x4x384_d4 h_S_) (ix4 b h g t))
      = top (fun u : Fin 384 => x (ix5 b h g t u)) := by
  refine (maxBot_apply _ b h g t).trans ((congrArg (max (Ideal.ofBits .f32 0xFF800000#32)) (hostMax_apply x b h g t)).trans ?_)
  unfold top
  rw [ninf]
  exact max_eq_right bot_le

/-- The reference's weights: the exponentials of the scores less the largest one, over their sum. -/
theorem hostW_apply (x : FVec Ideal S3x8x4x384x384 .f32) (b : Fin 3) (h : Fin 8) (g : Fin 4) (t s : Fin 384) :
    (show EReal from hostW x (ix5 b h g t s)) = Ideal.div (Ideal.exp (x (ix5 b h g t s) - top (fun u : Fin 384 => x (ix5 b h g t u))))
      (∑ u : Fin 384, Ideal.exp (x (ix5 b h g t u) - top (fun u : Fin 384 => x (ix5 b h g t u)))) := by
  have e := hostTop_apply x b h g t
  generalize hT : top (fun u : Fin 384 => x (ix5 b h g t u)) = T at *
  unfold hostW
  generalize maximumf (broadcastInDim S3x8x4x384 ![] bcast_S_S3x8x4x384 (constant (F := Ideal) S_ .f32 0xFF800000#32))
          (Host.reduce FloatOps.maximumf x (constant S_ .f32 0xFF800000#32) reducesTo_S3x8x4x384x384_S3x8x4x384_d4 h_S_) = M at *
  replace e : M (ix4 b h g t) = T := e
  rw [← e]
  pointwise

end Cert.AttnVal

end
-- ==== Proof.AttnHostOut.lean ====
module

public import proofs.«01_k».proof.Proof.Gen.AttnRefIdeal.Frame
public import proofs.«01_k».proof.Proof.AttnVal

@[expose] public section

set_option maxRecDepth 16384

noncomputable section

open Idealize.ShloMosaic Idealize.ShloMosaic.TcCoe Idealize.SL.Sem
open Idealize.ShloMosaic.Pipeline (Dat)

namespace Cert.AttnVal
open Cert.AttnRefIdeal Cert.AttnRefIdeal.Gen
/-- The reference's attention output, from the weights and the projection. -/
def hostO (w : FVec Ideal S3x8x4x384x384 .f32) (P : FVec Ideal S1152x6144 .f32) : FVec Ideal S1152x4096 .f32 := fun i =>
  shapeCast S1152x4096
    (transpose S3x384x8x4x128 [0, 4, 1, 3, 2]
      (Host.dotGeneral (φ₁ := .bf16) (φ₂ := .bf16) dot_S3x384x8x128_S3x8x4x384x384_S3x8x128x4x384_1_4_3_23_02_01 none
        (fun i => shapeCast S3x384x8x128
          (truncf .bf16 (extractStridedSlice S3x384x1024 ![0, 0, 5120]
            (fun i => shapeCast S3x384x6144 P shapeCasts_S1152x6144_S3x384x6144 i) slices_S3x384x6144_S3x384x1024_0_0_5120) bitsLt_bf16_f32)
          shapeCasts_S3x384x1024_S3x384x8x128 i)
        (truncf .bf16 w bitsLt_bf16_f32))
      transposes_S3x8x128x4x384_S3x384x8x4x128_0_4_1_3_2)
    shapeCasts_S3x384x8x4x128_S1152x4096 i

theorem hostO_apply (w : FVec Ideal S3x8x4x384x384 .f32) (P : FVec Ideal S1152x6144 .f32) (r : Fin 1152) (l : Fin 4096) :
    (show EReal from hostO w P (ix2 r l)) = ∑ s : Fin 384, P (ix2 ⟨r.val / 384 * 384 + s, by omega⟩ ⟨5120 + l.val / 512 * 128 + l.val % 128, by omega⟩)
      * w (ix5 ⟨r.val / 384, by omega⟩ ⟨l.val / 512, by omega⟩ ⟨l.val % 512 / 128, by omega⟩ ⟨r.val % 384, by omega⟩ s) := by
  pointwise [hostO]
  refine Finset.sum_congr rfl fun s _ => ?_
  refine congrArg₂ (fun a b : EReal => a * b) (congrArg P (congrArg _ (Fin.ext ?_))) (congrArg w ?_)
  · show 5120 + (l.val / 512 * 128 + l.val % 128) = 5120 + l.val / 512 * 128 + l.val % 128; omega
  · refine congrArg (fun a => ix5 _ _ a _ s) (Fin.ext ?_)
    show l.val / 128 % 4 = l.val % 512 / 128; omega

end Cert.AttnVal

end
-- ==== Proof.AttnHost.lean ====
module

public import proofs.«01_k».proof.Proof.Gen.AttnRefIdeal.Frame
public import proofs.«01_k».proof.Proof.AttnHostScores
public import proofs.«01_k».proof.Proof.AttnHostWeights
public import proofs.«01_k».proof.Proof.AttnHostOut
public import proofs.«01_k».proof.Proof.AttnVal

@[expose] public section

set_option maxRecDepth 16384

noncomputable section

open Idealize.ShloMosaic Idealize.ShloMosaic.TcCoe Idealize.SL.Sem
open Idealize.ShloMosaic.Pipeline (Dat)

namespace Cert.AttnVal
open Cert.AttnRefIdeal Cert.AttnRefIdeal.Gen
/-- The reference's projection. -/
def projV (C : FVec Ideal ⟨2, ![1152, 2560]⟩ .f32) (S : FVec Ideal ⟨2, ![1152, 1]⟩ .f32) (W : FVec Ideal ⟨2, ![2560, 6144]⟩ .f32)
    (T : FVec Ideal ⟨1, ![6144]⟩ .f32) : FVec Ideal S1152x6144 .f32 := fun j => proj C S W T (j 0) (j 1)

/-- The reference's lines after its projection compute the attention output. -/
theorem host_eq (C : FVec Ideal ⟨2, ![1152, 2560]⟩ .f32) (S : FVec Ideal ⟨2, ![1152, 1]⟩ .f32) (W : FVec Ideal ⟨2, ![2560, 6144]⟩ .f32)
    (T : FVec Ideal ⟨1, ![6144]⟩ .f32) : hostO (hostW (hostS (projV C S W T))) (projV C S W T) = attnV C S W T := by
  funext j
  obtain ⟨r, l, rfl⟩ : ∃ (r : Fin 1152) (l : Fin 4096), j = ix2 r l := ⟨j 0, j 1, by funext a; fin_cases a <;> rfl⟩
  refine (hostO_apply _ _ r l).trans ?_
  show _ = attn C S W T r l
  have hs : (fun s : Fin 384 => (show EReal from hostS (projV C S W T) (ix5 ⟨r.val / 384, by omega⟩ ⟨l.val / 512, by omega⟩ ⟨l.val % 512 / 128, by omega⟩ ⟨r.val % 384, by omega⟩ s)))
      = score (n := 384) (fun f => proj C S W T r ⟨l.val / 128 * 128 + f, by omega⟩)
        (fun s f => proj C S W T ⟨r.val / 384 * 384 + s, by omega⟩ ⟨4096 + l.val / 512 * 128 + f, by omega⟩) (r.val % 384) := by
    funext s
    refine (hostS_apply _ _ _ _ _ s).trans (congrArg (fun a => score a _ (r.val % 384) s) (funext fun f => ?_))
    refine congrArg₂ (proj C S W T) (Fin.ext ?_) (Fin.ext ?_)
    · show r.val / 384 * 384 + r.val % 384 = r.val; omega
    · show (l.val / 512 * 4 + l.val % 512 / 128) * 128 + f.val = l.val / 128 * 128 + f.val; omega
  unfold attn
  rw [← hs]
  generalize hostS (projV C S W T) = x
  unfold soft
  refine Finset.sum_congr rfl fun s _ => ?_
  rw [mul_comm (projV C S W T _ : EReal)]
  exact congrArg (fun a : EReal => a * _) (hostW_apply x _ _ _ _ s)

end Cert.AttnVal

end
-- ==== Proof.AttnRef.lean ====
module

public import proofs.«01_k».proof.Proof.Gen.AttnRefIdeal.Frame
public import proofs.«01_k».proof.Proof.AttnHost
public import proofs.«01_k».proof.Proof.AttnVal

@[expose] public section

set_option maxRecDepth 16384

noncomputable section

open Idealize.ShloMosaic Idealize.ShloMosaic.TcCoe Idealize.SL.Sem
open Idealize.ShloMosaic.Pipeline (Dat)

namespace Cert.AttnVal
open Cert.AttnRefIdeal Cert.AttnRefIdeal.Gen
variable (m : (ℓ : Loc nD τ sig) → Buf (Elt Ideal) ℓ)

/-- The arguments, by the names of the reference. -/
abbrev codesR (c : Dev nD) : FVec Ideal S1152x2560 .f32 := m ((c : Thread nD τ).loc main_arg0)
abbrev rowsR (c : Dev nD) : FVec Ideal S1152x1 .f32 := m ((c : Thread nD τ).loc main_arg1)
abbrev wR (c : Dev nD) : FVec Ideal S2560x6144 .f32 := m ((c : Thread nD τ).loc main_arg2)
abbrev colsR (c : Dev nD) : FVec Ideal S6144 .f32 := m ((c : Thread nD τ).loc main_arg3)

/-- The reference's one point stages whole arrays. -/
theorem idxR : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

theorem V0_codes (c : Dev nD) (i) : (show EReal from V0 m c main_v0 i) = codesR m c i := by
  have h : V0 m c main_v0 = StableHlo.after hostOps0 (fun b => m (c, b)) (Proc.devRef .tc main_v0) := rfl
  rw [h]
  after_results
  pointwise

theorem V0_w (c : Dev nD) (i) : (show EReal from V0 m c main_v1 i) = wR m c i := by
  have h : V0 m c main_v1 = StableHlo.after hostOps0 (fun b => m (c, b)) (Proc.devRef .tc main_v1) := rfl
  rw [h]
  after_results
  pointwise

theorem V0_cols (c : Dev nD) (l : Fin 6144) : (show EReal from V0 m c main_v2 (ix2 (0 : Fin 1) l)) = colsR m c (ix1 l) := by
  have h : V0 m c main_v2 = StableHlo.after hostOps0 (fun b => m (c, b)) (Proc.devRef .tc main_v2) := rfl
  rw [h]
  after_results
  pointwise

theorem finalR4 (c : Dev nD) : (dats m 0 c).arrAt 4 (cfgs 0).N = projV (codesR m c) (rowsR m c) (wR m c) (colsR m c) := by
  refine (dats m 0 c).arrAt_eq_of_after_last 4 t0_0 (by decide +kernel) _ fun j => ?_
  blk_simp
  rw [after0_4]; frame_out
  pointwise [k0_pay1, projV, proj]
  blk_point [iblk, idxR t0_0]
  refine Eq.trans ?_ (V0_cols m c (j 1))
  blk_ext [idxR t0_0]

/-- The reference's lines from the projection to the attention output. -/
theorem tailR (c : Dev nD) : Pipeline.afterTail₀ cfgs (dats m) 0 (V0 m) [hostOps1, hostOps1_1, hostOps1_2] c main_v39
    = attnV (codesR m c) (rowsR m c) (wR m c) (colsR m c) := by
  have h : Pipeline.afterTail₀ cfgs (dats m) 0 (V0 m) [hostOps1, hostOps1_1, hostOps1_2] c main_v39
    = StableHlo.after (hostOps1 ++ hostOps1_1 ++ hostOps1_2) (Pipeline.withArrays (cfgs 0).spec c (V0 m c) fun w => (dats m 0 c).arrAt w (cfgs 0).N) (Proc.devRef .tc main_v39) := rfl
  rw [h]
  simp only [List.cons_append, List.nil_append]
  have h4 : (Pipeline.withArrays (cfgs 0).spec c (V0 m c) fun w => (dats m 0 c).arrAt w (cfgs 0).N) (Proc.devRef .tc main_v3)
    = (dats m 0 c).arrAt 4 (cfgs 0).N := Pipeline.withArrays_arr (cfgs 0).spec launch0.win.arr_inj c _ _ 4
  rw [finalR4] at h4
  generalize Pipeline.withArrays (cfgs 0).spec c (V0 m c) (fun w => (dats m 0 c).arrAt w (cfgs 0).N) = X at *
  after_results
  simp -implicitDefEqProofs only [StableHlo.TRef.toBuf, StableHlo.TRef.ofBuf, cast_cast, cast_eq, id]
  rw [h4]
  exact host_eq _ _ _ _

end Cert.AttnVal

end
-- ==== Proof.AttnClaim.lean ====
module

public import proofs.«01_k».proof.Defs
public import proofs.«01_k».proof.Proof.Gen.AttnIdeal
public import proofs.«01_k».proof.Proof.Gen.AttnRefIdeal
public import proofs.«01_k».proof.Proof.Gen.Pre_qkv_attn_finite
public import proofs.«01_k».proof.Proof.AttnRef
public import proofs.«01_k».proof.Proof.Quant

@[expose] public section

set_option maxRecDepth 16384

noncomputable section

open Idealize.ShloMosaic Idealize.ShloMosaic.TcCoe Idealize.SL.Sem

namespace Cert.AttnVal
open Cert.Quant (real_of le_of_ones)

/-- A projection of finite codes, weights and scales is a number. -/
theorem real_proj (C : FVec Ideal ⟨2, ![1152, 2560]⟩ .f32) (S : FVec Ideal ⟨2, ![1152, 1]⟩ .f32) (W : FVec Ideal ⟨2, ![2560, 6144]⟩ .f32)
    (T : FVec Ideal ⟨1, ![6144]⟩ .f32) (r : Fin 1152) (j : Fin 6144) (hC : ∀ i, ∃ x : ℝ, (C i : EReal) = x)
    (hS : ∀ i, ∃ x : ℝ, (S i : EReal) = x) (hW : ∀ k, ∃ x : ℝ, (W (ix2 k j) : EReal) = x) (hT : ∃ x : ℝ, (T (ix1 j) : EReal) = x) :
    ∃ x : ℝ, proj C S W T r j = x :=
  real_mul (real_sum _ fun k => real_mul (hC _) (hW k)) (real_mul (hS _) hT)

section Pre
open Cert.Pre_qkv_attn_finite Cert.Pre_qkv_attn_finite.Gen

/-- The weight columns of the queries and keys. -/
theorem slice_w (W : FVec Ideal S2560x6144 .f32) (k : Fin 2560) (j : Fin 5120) :
    (show EReal from extractStridedSlice S2560x5120 ![0, 0] W slices_S2560x6144_S2560x5120_0_0 (ix2 k j)) = W (ix2 k ⟨j, by omega⟩) := by
  pointwise

theorem slice_s (T : FVec Ideal S6144 .f32) (j : Fin 5120) :
    (show EReal from extractStridedSlice S5120 ![0] T slices_S6144_S5120_0 (ix1 j)) = T (ix1 ⟨j, by omega⟩) := by
  pointwise

end Pre

open Cert.AttnIdeal in
/-- Under the precondition the query and key projections are numbers. -/
theorem pre_real {m : (ℓ : Loc nD τ sig) → Buf (Elt Ideal) ℓ}
    (h : Cert.Pre_AttnIdeal_qkv_attn_finite (hPre_qkv_attn_finite := Cert.Pre_qkv_attn_finite.Gen.facts) m) (c : Dev nD)
    (r : Fin 1152) (j : Fin 6144) (hj : j.val < 5120) : ∃ x : ℝ, proj (codesK m c) (rowsK m c) (wK m c) (colsK m c) r j = x := by
  obtain ⟨h0, h1, h2, h3⟩ := h c
  refine real_proj _ _ _ _ r j (fun i => real_of (le_of_ones h0 i)) (fun i => real_of (le_of_ones h1 i)) (fun k => ?_) ?_
  · obtain ⟨x, hx⟩ := real_of (le_of_ones h2 (ix2 k ⟨j, hj⟩))
    exact ⟨x, (slice_w (wK m c) k ⟨j, hj⟩).symm.trans hx⟩
  · obtain ⟨x, hx⟩ := real_of (le_of_ones h3 (ix1 ⟨j, hj⟩))
    exact ⟨x, (slice_s (colsK m c) ⟨j, hj⟩).symm.trans hx⟩

open Cert.AttnRefIdeal Cert.AttnRefIdeal.Gen in
/-- The reference's run, with its result. -/
theorem runR (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c : Thread nD τ).loc main_v39) = attnV (codesR m c) (rowsR m c) (wR m c) (colsR m c)) := by
  refine θ_run_mono (run_main m g) ?_
  intro r h c
  have e := (h c).2 main_v39 (Pipeline.mem_restRefs_of main_v39 (by decide) (by decide))
  rw [tailR m c] at e
  exact e

set_option maxHeartbeats 2000000 in
/-- Over the reals the projection and attention call returns what the plain reference returns. -/
theorem algebraic : Cert.algebraic_AttnIdeal_AttnRefIdeal_pre_qkv_attn_finite (hAttnIdeal := Cert.AttnIdeal.Gen.facts)
    (hAttnRefIdeal := Cert.AttnRefIdeal.Gen.facts) (hPre_qkv_attn_finite := Cert.Pre_qkv_attn_finite.Gen.facts) := by
  pair_intro
  · run_from Cert.AttnIdeal.Gen.run_main m g
  · refine θ_run_mono (θ_run_and (runR m' g') (Cert.AttnRefIdeal.Gen.unchanged m' g')) ?_
    intro r h c
    obtain ⟨a0, a1, a2, a3⟩ := hagree c
    have e := h.1 c
    have e8 := final8 m c (pre_real hpre c)
    unfold codesR rowsR wR colsR at e
    rw [a0, a1, a2, a3] at e
    exact ⟨e.trans e8.symm, h.2 c⟩

end Cert.AttnVal

end
-- ==== Proof.lean ====
module

public import proofs.«01_k».proof.Defs
public import proofs.«01_k».proof.Proof.Gen.GateUp
public import proofs.«01_k».proof.Proof.Gen.GateUp.Frame
public import proofs.«01_k».proof.Proof.Gen.GateUpIdeal
public import proofs.«01_k».proof.Proof.Gen.GateUpIdeal.Frame
public import proofs.«01_k».proof.Proof.Gen.GateUpRefIdeal
public import proofs.«01_k».proof.Proof.Gen.GateUpRefIdeal.Frame
public import proofs.«01_k».proof.Proof.Gen.GateUpIdeal.Value
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownRefIdeal
public import proofs.«01_k».proof.Proof.Gen.DownRefIdeal.Frame
public import proofs.«01_k».proof.Proof.Gen.DownIdeal.Value
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnRefIdeal
public import proofs.«01_k».proof.Proof.Gen.AttnRefIdeal.Frame
public import proofs.«01_k».proof.Proof.Gen.AttnIdeal.Value
public import proofs.«01_k».proof.Proof.Gen.AttnOut
public import proofs.«01_k».proof.Proof.Gen.AttnOut.Frame
public import proofs.«01_k».proof.Proof.Gen.AttnOutIdeal
public import proofs.«01_k».proof.Proof.Gen.AttnOutIdeal.Frame
public import proofs.«01_k».proof.Proof.Gen.AttnOutRefIdeal
public import proofs.«01_k».proof.Proof.Gen.AttnOutRefIdeal.Frame
public import proofs.«01_k».proof.Proof.Gen.AttnOutIdeal.Value
public import proofs.«01_k».proof.Proof.Gen.HcIn
public import proofs.«01_k».proof.Proof.Gen.HcIn.Frame
public import proofs.«01_k».proof.Proof.Gen.HcInIdeal
public import proofs.«01_k».proof.Proof.Gen.HcInIdeal.Frame
public import proofs.«01_k».proof.Proof.Gen.HcInRefIdeal
public import proofs.«01_k».proof.Proof.Gen.HcInRefIdeal.Frame
public import proofs.«01_k».proof.Proof.Gen.HcInIdeal.Value
public import proofs.«01_k».proof.Proof.GateUpClaim
public import proofs.«01_k».proof.Proof.Gen.Pre_down_finite
public import proofs.«01_k».proof.Proof.DownClaim
public import proofs.«01_k».proof.Proof.Gen.Pre_qkv_attn_finite
public import proofs.«01_k».proof.Proof.AttnClaim
public import Idealize.ShloMosaic.Adequacy
public import Idealize.ShloMosaic.Init

@[expose] public section

noncomputable section

namespace Cert.Proof

open Idealize.ShloMosaic Idealize.SL.Sem

/-- Everything the certificate claims. -/
theorem claim : Cert.Claim := ⟨Cert.GateUp.Gen.facts,
  Cert.GateUpIdeal.Gen.facts,
  Cert.GateUpRefIdeal.Gen.facts,
  Cert.Down.Gen.facts,
  Cert.DownIdeal.Gen.facts,
  Cert.DownRefIdeal.Gen.facts,
  Cert.Attn.Gen.facts,
  Cert.AttnIdeal.Gen.facts,
  Cert.AttnRefIdeal.Gen.facts,
  Cert.AttnOut.Gen.facts,
  Cert.AttnOutIdeal.Gen.facts,
  Cert.AttnOutRefIdeal.Gen.facts,
  Cert.HcIn.Gen.facts,
  Cert.HcInIdeal.Gen.facts,
  Cert.HcInRefIdeal.Gen.facts,
  Cert.Pre_down_finite.Gen.facts,
  Cert.Pre_qkv_attn_finite.Gen.facts,
  fun m ρ _ => Cert.GateUp.Gen.frame m ρ,
  fun m ρ _ => Cert.GateUpIdeal.Gen.frame m ρ,
  fun m ρ _ => Cert.GateUpRefIdeal.Gen.frame m ρ,
  fun m ρ _ => Cert.Down.Gen.frame m ρ,
  fun m ρ _ => Cert.DownIdeal.Gen.frame m ρ,
  fun m ρ _ => Cert.DownIdeal.Gen.frame m ρ,
  fun m ρ _ => Cert.DownRefIdeal.Gen.frame m ρ,
  fun m ρ _ => Cert.DownRefIdeal.Gen.frame m ρ,
  fun m ρ _ => Cert.Attn.Gen.frame m ρ,
  fun m ρ _ => Cert.AttnIdeal.Gen.frame m ρ,
  fun m ρ _ => Cert.AttnIdeal.Gen.frame m ρ,
  fun m ρ _ => Cert.AttnRefIdeal.Gen.frame m ρ,
  fun m ρ _ => Cert.AttnRefIdeal.Gen.frame m ρ,
  fun m ρ _ => Cert.AttnOut.Gen.frame m ρ,
  fun m ρ _ => Cert.AttnOutIdeal.Gen.frame m ρ,
  fun m ρ _ => Cert.AttnOutRefIdeal.Gen.frame m ρ,
  fun m ρ _ => Cert.HcIn.Gen.frame m ρ,
  fun m ρ _ => Cert.HcInIdeal.Gen.frame m ρ,
  fun m ρ _ => Cert.HcInRefIdeal.Gen.frame m ρ,
  trivial,
  Cert.GateUpHid.algebraic,
  trivial,
  Cert.DownVal.algebraic,
  trivial,
  Cert.AttnVal.algebraic,
  trivial,
  trivial⟩

end Cert.Proof

end
